-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_clip_idle [hKernelIdeal : Cert.KernelIdeal.Facts] [hReferenceIdeal : Cert.ReferenceIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 1024]⟩ : Shape).Idx, (Layout.block ⟨2, ![128, 1024]⟩ ⟨2, ![1024, 1024]⟩ 0 8 c ((Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![128, 1024]⟩ : Shape).Idx → _) i = 1#1 → r.2.mem ((c.tc : Thread Cert.KernelIdeal.nD Cert.KernelIdeal.τ).loc Cert.KernelIdeal.main_v1) i = (Layout.block ⟨2, ![128, 1024]⟩ ⟨2, ![1024, 1024]⟩ 0 8 c v0 : (⟨2, ![128, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_clip_idle (hKernelIdeal := hKernelIdeal) (hReferenceIdeal := hReferenceIdeal) (hOn_clip_idle := hOn_clip_idle)
-- ==== On_clip_idle.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S1024x128 : Shape := ⟨2, ![1024, 128]⟩
abbrev S1024x1024 : Shape := ⟨2, ![1024, 1024]⟩
abbrev S128x1024 : Shape := ⟨2, ![128, 1024]⟩
abbrev S8 : Shape := ⟨1, ![8]⟩
abbrev S_ : Shape := ⟨0, ![]⟩
abbrev S1 : Shape := ⟨1, ![1]⟩
abbrev S128x128 : Shape := ⟨2, ![128, 128]⟩
abbrev S128x384 : Shape := ⟨2, ![128, 384]⟩
abbrev S384x1024 : Shape := ⟨2, ![384, 1024]⟩
abbrev S128x256 : Shape := ⟨2, ![128, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S128x1024, .f32⟩
  | .local _ .vmem, ⟨0, _⟩ => ⟨S1024x128, .f32⟩
  | .local _ .vmem, ⟨1, _⟩ => ⟨S1024x1024, .f32⟩
  | .local _ .vmem, ⟨2, _⟩ => ⟨S128x1024, .f32⟩
  | .local _ .vmem, ⟨3, _⟩ => ⟨S1024x128, .bf16⟩
  | .local _ .vmem, ⟨4, _⟩ => ⟨S128x1024, .bf16⟩
  | .local _ .vmem, ⟨5, _⟩ => ⟨S1024x1024, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c3_i32 : BitVec 32 := 3#32
  let v25 : BitVec 32 := Scalar.xori v5 c3_i32
  let c1_i32_17 : BitVec 32 := 1#32
  let v26 : BitVec 32 := Scalar.shrsi v25 c1_i32_17
  let c1_i32_18 : BitVec 32 := 1#32
  let v27 : BitVec 32 := Scalar.andi v26 c1_i32_18
  let v28 : BitVec 32 := Scalar.xori v25 v27
  let c1_i32_20 : BitVec 32 := 1#32
  let v29 : BitVec 32 := Scalar.muli v28 c1_i32_20
  let v30 : BitVec 32 := Scalar.addi c0_i32_21 v29
  v30.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c5_i32 : BitVec 32 := 5#32
  let v31 : BitVec 32 := Scalar.xori v5 c5_i32
  let c1_i32_22 : BitVec 32 := 1#32
  let v32 : BitVec 32 := Scalar.shrsi v31 c1_i32_22
  let c1_i32_23 : BitVec 32 := 1#32
  let v33 : BitVec 32 := Scalar.andi v32 c1_i32_23
  let v34 : BitVec 32 := Scalar.xori v31 v33
  let c1_i32_25 : BitVec 32 := 1#32
  let v35 : BitVec 32 := Scalar.muli v34 c1_i32_25
  let v36 : BitVec 32 := Scalar.addi c0_i32_26 v35
  v36.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c6_i32 : BitVec 32 := 6#32
  let v37 : BitVec 32 := Scalar.xori v5 c6_i32
  let c1_i32_27 : BitVec 32 := 1#32
  let v38 : BitVec 32 := Scalar.shrsi v37 c1_i32_27
  let c1_i32_28 : BitVec 32 := 1#32
  let v39 : BitVec 32 := Scalar.andi v38 c1_i32_28
  let v40 : BitVec 32 := Scalar.xori v37 v39
  let c1_i32_30 : BitVec 32 := 1#32
  let v41 : BitVec 32 := Scalar.muli v40 c1_i32_30
  let v42 : BitVec 32 := Scalar.addi c0_i32_31 v41
  v42.toNat
def k0_dev7 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v43 : BitVec 32 := Scalar.xori v5 c7_i32
  let c1_i32_32 : BitVec 32 := 1#32
  let v44 : BitVec 32 := Scalar.shrsi v43 c1_i32_32
  let c1_i32_33 : BitVec 32 := 1#32
  let v45 : BitVec 32 := Scalar.andi v44 c1_i32_33
  let v46 : BitVec 32 := Scalar.xori v43 v45
  let c1_i32_35 : BitVec 32 := 1#32
  let v47 : BitVec 32 := Scalar.muli v46 c1_i32_35
  let v48 : BitVec 32 := Scalar.addi c0_i32_36 v47
  v48.toNat
def k0_off1 (d0 : Dev nD) (c1_i32_41 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v55 : BitVec 32 := Scalar.xori v5 c1_i32_41
  let c1_i32_42 : BitVec 32 := 1#32
  let v56 : BitVec 32 := Scalar.shrsi v55 c1_i32_42
  let c1_i32_43 : BitVec 32 := 1#32
  let v57 : BitVec 32 := Scalar.andi v56 c1_i32_43
  let v58 : BitVec 32 := Scalar.xori v55 v57
  let c128_i32 : BitVec 32 := 128#32
  let v59 : BitVec 32 := Scalar.muli v58 c128_i32
  let c0_i32_50 : BitVec 32 := 0#32
  ![v59.toNat, 0]
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_41 : BitVec 32 := 1#32
  let v55 : BitVec 32 := Scalar.xori v5 c1_i32_41
  let c1_i32_42 : BitVec 32 := 1#32
  let v56 : BitVec 32 := Scalar.shrsi v55 c1_i32_42
  let c1_i32_43 : BitVec 32 := 1#32
  let v57 : BitVec 32 := Scalar.andi v56 c1_i32_43
  let v58 : BitVec 32 := Scalar.xori v55 v57
  let c1_i32_46 : BitVec 32 := 1#32
  let v60 : BitVec 32 := Scalar.muli v58 c1_i32_46
  let v61 : BitVec 32 := Scalar.addi c0_i32_47 v60
  v61.toNat
def k0_dev9 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_51 : BitVec 32 := 2#32
  let v68 : BitVec 32 := Scalar.xori v5 c2_i32_51
  let c1_i32_52 : BitVec 32 := 1#32
  let v69 : BitVec 32 := Scalar.shrsi v68 c1_i32_52
  let c1_i32_53 : BitVec 32 := 1#32
  let v70 : BitVec 32 := Scalar.andi v69 c1_i32_53
  let v71 : BitVec 32 := Scalar.xori v68 v70
  let c1_i32_57 : BitVec 32 := 1#32
  let v73 : BitVec 32 := Scalar.muli v71 c1_i32_57
  let v74 : BitVec 32 := Scalar.addi c0_i32_58 v73
  v74.toNat
def k0_dev10 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_62 : BitVec 32 := 4#32
  let v81 : BitVec 32 := Scalar.xori v5 c4_i32_62
  let c1_i32_63 : BitVec 32 := 1#32
  let v82 : BitVec 32 := Scalar.shrsi v81 c1_i32_63
  let c1_i32_64 : BitVec 32 := 1#32
  let v83 : BitVec 32 := Scalar.andi v82 c1_i32_64
  let v84 : BitVec 32 := Scalar.xori v81 v83
  let c1_i32_68 : BitVec 32 := 1#32
  let v86 : BitVec 32 := Scalar.muli v84 c1_i32_68
  let v87 : BitVec 32 := Scalar.addi c0_i32_69 v86
  v87.toNat
def k0_dev11 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c3_i32_72 : BitVec 32 := 3#32
  let v94 : BitVec 32 := Scalar.xori v5 c3_i32_72
  let c1_i32_73 : BitVec 32 := 1#32
  let v95 : BitVec 32 := Scalar.shrsi v94 c1_i32_73
  let c1_i32_74 : BitVec 32 := 1#32
  let v96 : BitVec 32 := Scalar.andi v95 c1_i32_74
  let v97 : BitVec 32 := Scalar.xori v94 v96
  let c1_i32_78 : BitVec 32 := 1#32
  let v99 : BitVec 32 := Scalar.muli v97 c1_i32_78
  let v100 : BitVec 32 := Scalar.addi c0_i32_79 v99
  v100.toNat
def k0_dev12 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c5_i32_82 : BitVec 32 := 5#32
  let v107 : BitVec 32 := Scalar.xori v5 c5_i32_82
  let c1_i32_83 : BitVec 32 := 1#32
  let v108 : BitVec 32 := Scalar.shrsi v107 c1_i32_83
  let c1_i32_84 : BitVec 32 := 1#32
  let v109 : BitVec 32 := Scalar.andi v108 c1_i32_84
  let v110 : BitVec 32 := Scalar.xori v107 v109
  let c1_i32_88 : BitVec 32 := 1#32
  let v112 : BitVec 32 := Scalar.muli v110 c1_i32_88
  let v113 : BitVec 32 := Scalar.addi c0_i32_89 v112
  v113.toNat
def k0_dev13 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c6_i32_92 : BitVec 32 := 6#32
  let v120 : BitVec 32 := Scalar.xori v5 c6_i32_92
  let c1_i32_93 : BitVec 32 := 1#32
  let v121 : BitVec 32 := Scalar.shrsi v120 c1_i32_93
  let c1_i32_94 : BitVec 32 := 1#32
  let v122 : BitVec 32 := Scalar.andi v121 c1_i32_94
  let v123 : BitVec 32 := Scalar.xori v120 v122
  let c1_i32_98 : BitVec 32 := 1#32
  let v125 : BitVec 32 := Scalar.muli v123 c1_i32_98
  let v126 : BitVec 32 := Scalar.addi c0_i32_99 v125
  v126.toNat
def k0_dev14 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32_102 : BitVec 32 := 7#32
  let v133 : BitVec 32 := Scalar.xori v5 c7_i32_102
  let c1_i32_103 : BitVec 32 := 1#32
  let v134 : BitVec 32 := Scalar.shrsi v133 c1_i32_103
  let c1_i32_104 : BitVec 32 := 1#32
  let v135 : BitVec 32 := Scalar.andi v134 c1_i32_104
  let v136 : BitVec 32 := Scalar.xori v133 v135
  let c1_i32_108 : BitVec 32 := 1#32
  let v138 : BitVec 32 := Scalar.muli v136 c1_i32_108
  let v139 : BitVec 32 := Scalar.addi c0_i32_109 v138
  v139.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_112 : BitVec 32 := 128#32
  let v146 : BitVec 32 := Scalar.muli v2 c128_i32_112
  let v147 : Index := Scalar.indexCast v146
  let c0_113 : Index := 0#32
  ![v147.toNat, 0]
def k0_off3 (d0 : Dev nD) (c1_i32_115 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v152 : BitVec 32 := Scalar.xori v5 c1_i32_115
  let c1_i32_116 : BitVec 32 := 1#32
  let v153 : BitVec 32 := Scalar.shrsi v152 c1_i32_116
  let c1_i32_117 : BitVec 32 := 1#32
  let v154 : BitVec 32 := Scalar.andi v153 c1_i32_117
  let v155 : BitVec 32 := Scalar.xori v152 v154
  let c128_i32_118 : BitVec 32 := 128#32
  let v156 : BitVec 32 := Scalar.muli v155 c128_i32_118
  let v157 : Index := Scalar.indexCast v156
  let c0_119 : Index := 0#32
  ![v157.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_158 : BitVec 32 := 128#32
  let v236 : BitVec 32 := Scalar.muli v2 c128_i32_158
  let v237 : Index := Scalar.indexCast v236
  let c0_159 : Index := 0#32
  ![v237.toNat, 0]
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Proto.lean ====
/-
The exchange protocol of the kernel, as data: which device pairs with which in each of the eight slots, the buffers'
blocks, the semaphore cells, and the one round of duties each cell carries (who pays it, how much, and which block of
which buffer comes with the payment).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (duties named by slot) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who pairs with whom -/

/-- The distance, as a bit pattern, between a device's id and the id it is paired with in each slot. -/
def apart : Fin 8 → Fin 8 := ![1, 3, 4, 2, 5, 7, 6, 0]

/-- The device whose block slot `k` of device `c` holds; slot 7 is the device's own block. -/
def peer (c : Dev nD) (k : Fin 8) : Dev nD := (c : Fin 8) ^^^ apart k

theorem peer_peer (c : Dev nD) (k : Fin 8) : peer (peer c k) k = c := by revert c k; decide
theorem peer_own (c : Dev nD) : peer c 7 = c := by revert c; decide
theorem peer_inj (c : Dev nD) : Function.Injective (peer c) := by
  intro a b; revert a b c; decide
theorem peer_surj (c d : Dev nD) : ∃ k, peer c k = d := by revert c d; decide

/-- Pairing in slot `k` is an involution of the devices. -/
def pairing (k : Fin 8) : Dev nD ≃ Dev nD := ⟨fun c => peer c k, fun c => peer c k, fun c => peer_peer c k, fun c => peer_peer c k⟩

/-- The slots of a device, taken to the devices they pair it with, are all devices once. -/
def peers (c : Dev nD) : Fin 8 ≃ Dev nD := Equiv.ofBijective (peer c) ⟨peer_inj c, peer_surj c⟩

/-! The kernel's device and offset chains in closed form: the signals and the transfers of slot `k` go to `peer c k`. -/

theorem sig_dev0 : ∀ c : Dev nD, (⟨k0_dev1 c, k0_dev1_lt c⟩ : Dev nD) = peer c 0 := by decide +kernel
theorem sig_dev1 : ∀ c : Dev nD, (⟨k0_dev2 c, k0_dev2_lt c⟩ : Dev nD) = peer c 1 := by decide +kernel
theorem sig_dev2 : ∀ c : Dev nD, (⟨k0_dev3 c, k0_dev3_lt c⟩ : Dev nD) = peer c 2 := by decide +kernel
theorem sig_dev3 : ∀ c : Dev nD, (⟨k0_dev4 c, k0_dev4_lt c⟩ : Dev nD) = peer c 3 := by decide +kernel
theorem sig_dev4 : ∀ c : Dev nD, (⟨k0_dev5 c, k0_dev5_lt c⟩ : Dev nD) = peer c 4 := by decide +kernel
theorem sig_dev5 : ∀ c : Dev nD, (⟨k0_dev6 c, k0_dev6_lt c⟩ : Dev nD) = peer c 5 := by decide +kernel
theorem sig_dev6 : ∀ c : Dev nD, (⟨k0_dev7 c, k0_dev7_lt c⟩ : Dev nD) = peer c 6 := by decide +kernel
theorem snd_dev0 : ∀ c : Dev nD, (⟨k0_dev8 c, k0_dev8_lt c⟩ : Dev nD) = peer c 0 := by decide +kernel
theorem snd_dev1 : ∀ c : Dev nD, (⟨k0_dev9 c, k0_dev9_lt c⟩ : Dev nD) = peer c 1 := by decide +kernel
theorem snd_dev2 : ∀ c : Dev nD, (⟨k0_dev10 c, k0_dev10_lt c⟩ : Dev nD) = peer c 2 := by decide +kernel
theorem snd_dev3 : ∀ c : Dev nD, (⟨k0_dev11 c, k0_dev11_lt c⟩ : Dev nD) = peer c 3 := by decide +kernel
theorem snd_dev4 : ∀ c : Dev nD, (⟨k0_dev12 c, k0_dev12_lt c⟩ : Dev nD) = peer c 4 := by decide +kernel
theorem snd_dev5 : ∀ c : Dev nD, (⟨k0_dev13 c, k0_dev13_lt c⟩ : Dev nD) = peer c 5 := by decide +kernel
theorem snd_dev6 : ∀ c : Dev nD, (⟨k0_dev14 c, k0_dev14_lt c⟩ : Dev nD) = peer c 6 := by decide +kernel
theorem x_off0 : ∀ c : Dev nD, k0_off1 c 1#32 = ![128 * (peer c 0).val, 0] := by decide +kernel
theorem x_off1 : ∀ c : Dev nD, k0_off1 c 2#32 = ![128 * (peer c 1).val, 0] := by decide +kernel
theorem x_off2 : ∀ c : Dev nD, k0_off1 c 4#32 = ![128 * (peer c 2).val, 0] := by decide +kernel
theorem x_off3 : ∀ c : Dev nD, k0_off1 c 3#32 = ![128 * (peer c 3).val, 0] := by decide +kernel
theorem x_off4 : ∀ c : Dev nD, k0_off1 c 5#32 = ![128 * (peer c 4).val, 0] := by decide +kernel
theorem x_off5 : ∀ c : Dev nD, k0_off1 c 6#32 = ![128 * (peer c 5).val, 0] := by decide +kernel
theorem x_off6 : ∀ c : Dev nD, k0_off1 c 7#32 = ![128 * (peer c 6).val, 0] := by decide +kernel
theorem x_off7 : ∀ c : Dev nD, k0_off2 c = ![128 * (peer c 7).val, 0] := by decide +kernel
theorem w_off0 : ∀ c : Dev nD, k0_off3 c 1#32 = ![128 * (peer c 0).val, 0] := by decide +kernel
theorem w_off1 : ∀ c : Dev nD, k0_off3 c 2#32 = ![128 * (peer c 1).val, 0] := by decide +kernel
theorem w_off2 : ∀ c : Dev nD, k0_off3 c 4#32 = ![128 * (peer c 2).val, 0] := by decide +kernel
theorem w_off3 : ∀ c : Dev nD, k0_off3 c 3#32 = ![128 * (peer c 3).val, 0] := by decide +kernel
theorem w_off4 : ∀ c : Dev nD, k0_off3 c 5#32 = ![128 * (peer c 4).val, 0] := by decide +kernel
theorem w_off5 : ∀ c : Dev nD, k0_off3 c 6#32 = ![128 * (peer c 5).val, 0] := by decide +kernel
theorem w_off6 : ∀ c : Dev nD, k0_off3 c 7#32 = ![128 * (peer c 6).val, 0] := by decide +kernel
theorem w_off7 : ∀ c : Dev nD, k0_off4 c = ![128 * (peer c 7).val, 0] := by decide +kernel

/-! ## The memrefs, their blocks, the cells -/

abbrev xM : Memref sig .tc .vmem S1024x128 .f32 := Memref.whole cc0_stg0_0
abbrev wM : Memref sig .tc .vmem S1024x1024 .f32 := Memref.whole cc0_stg1_0
abbrev oM : Memref sig .tc .vmem S128x1024 .f32 := Memref.whole cc0_stg2_0
abbrev xbM : Memref sig .tc .vmem S1024x128 .bf16 := Memref.whole cc0_scratch0
abbrev rowM : Memref sig .tc .vmem S128x1024 .bf16 := Memref.whole cc0_scratch1
abbrev wpM : Memref sig .tc .vmem S1024x1024 .bf16 := Memref.whole cc0_scratch2

theorem slot_inb (k : Fin 8) : ∀ a, (![0, 128 * k.val] : Fin 2 → Nat) a + S128x128.size a ≤ S128x1024.size a := by revert k; decide
theorem blk_inb (d : Dev nD) : ∀ a, (![128 * d.val, 0] : Fin 2 → Nat) a + S128x128.size a ≤ S1024x128.size a := by revert d; decide

/-- Slot `k` of the landing buffer: its columns `[128 k, 128 k + 128)`. -/
abbrev slotM (k : Fin 8) : Memref sig .tc .vmem S128x128 .bf16 :=
  rowM.slice (Rect.unit (s := S128x1024) ![0, 128 * k.val] S128x128.size (slot_inb k)) (fun _ => rfl)
/-- The rows of the rounded block of `x` that device `d` is to have: `[128 d, 128 d + 128)`. -/
abbrev blkM (d : Dev nD) : Memref sig .tc .vmem S128x128 .bf16 :=
  xbM.slice (Rect.unit (s := S1024x128) ![128 * d.val, 0] S128x128.size (blk_inb d)) (fun _ => rfl)

/-- The runtime's barrier semaphore; the send and the receive semaphore of each slot. -/
abbrev barS : Sem sig := (SemArray.scalar (sig.barrier 0 rfl) : Sems sig S_).sem
def sendS (k : Fin 8) : DmaSem sig := ⟨3 + k.val, by have := k.isLt; show 3 + k.val < 19; omega⟩
def recvS (k : Fin 8) : DmaSem sig := ⟨11 + k.val, by have := k.isLt; show 11 + k.val < 19; omega⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The kernel's own (scoped) semaphores in the pool's order: the eight send ones, then the eight receive ones. -/
def osem (j : Fin 16) : SemLoc sig := .dma ⟨3 + j.val, by have := j.isLt; show 3 + j.val < 19; omega⟩
/-- All cells of a device: the barrier's, then those. -/
def csem (j : Fin 17) : SemLoc sig := Fin.cases (SemLoc.reg barS) osem j
abbrev kcell (cj : Dev nD × Fin 17) : GSem nD τ sig := ((cj.1 : Thread nD τ), csem cj.2)
def jS (k : Fin 8) : Fin 17 := ⟨1 + k.val, by omega⟩
def jR (k : Fin 8) : Fin 17 := ⟨9 + k.val, by omega⟩
theorem csem_bar : csem 0 = .reg barS := rfl
theorem csem_send : ∀ k, csem (jS k) = .dma (sendS k) := by decide
theorem csem_recv : ∀ k, csem (jR k) = .dma (recvS k) := by decide

/-- What a semaphore is for. -/
inductive Use where
  | bar | snd (k : Fin 8) | rcv (k : Fin 8) | other
deriving DecidableEq

def use : SemLoc sig → Use
  | .reg s => if s = barS then .bar else .other
  | .dma q => if h : q.val < 3 then .other else if h' : q.val < 11 then .snd ⟨q.val - 3, by omega⟩
      else .rcv ⟨q.val - 11, by have : q.val < 19 := q.isLt; omega⟩

theorem use_bar : use (.reg barS) = .bar := by decide
theorem use_send : ∀ k, use (.dma (sendS k)) = .snd k := by decide
theorem use_recv : ∀ k, use (.dma (recvS k)) = .rcv k := by decide

/-- A block's credit on its semaphores. -/
abbrev N : ℕ := (slotM 0).view.dmaCredit
theorem N_pos : 0 < N := View.dmaCredit_pos _ (by decide)
theorem N_slot (k : Fin 8) : (slotM k).view.dmaCredit = N := rfl
theorem N_blk (d : Dev nD) : (blkM d).view.dmaCredit = N := rfl

/-! ## Contents -/

/-- The staged block of `x` and the staged `w` of device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The rounded block of `x` on device `c`. -/
def xbC (c : Dev nD) : (cc0_scratch0 : Ref sig .tc).ty.Contents (Elt F) := k0_pay2 (xstg m ρ c)

/-- Row `r`, column `q` of the buffer of rounded blocks; likewise of `w`. -/
def xIx (r q : Nat) (hr : r < 1024) (hq : q < 128) : (S1024x128).Idx := fun a => match a with | 0 => ⟨r, hr⟩ | 1 => ⟨q, hq⟩
def wIx (r q : Nat) (hr : r < 1024) (hq : q < 1024) : (S1024x1024).Idx := fun a => match a with | 0 => ⟨r, hr⟩ | 1 => ⟨q, hq⟩

theorem row_lt0 (i : (S128x1024).Idx) : (i 0).val < 128 := (i 0).isLt
theorem row_lt1 (i : (S128x1024).Idx) : (i 1).val < 1024 := (i 1).isLt
theorem w_lt0 (i : (S1024x1024).Idx) : (i 0).val < 1024 := (i 0).isLt
theorem w_lt1 (i : (S1024x1024).Idx) : (i 1).val < 1024 := (i 1).isLt

/-- The slot a column of the landing buffer lies in; the row block a row of the permuted `w` lies in. -/
def slotOf (i : (S128x1024).Idx) : Fin 8 := ⟨(i 1).val / 128, by have := row_lt1 i; omega⟩
def wblkOf (i : (S1024x1024).Idx) : Fin 8 := ⟨(i 0).val / 128, by have := w_lt0 i; omega⟩

theorem rows_lt (d : Dev nD) {r : Nat} (h : r < 128) : 128 * d.val + r < 1024 := by
  have : d.val < 8 := d.isLt
  omega

/-- The landing buffer of device `c` when every block is in: slot `k` holds the rows `[128 c, 128 c + 128)` of the rounded
    block of `peer c k`. -/
def rowC (c : Dev nD) : (cc0_scratch1 : Ref sig .tc).ty.Contents (Elt F) := fun (i : (S128x1024).Idx) =>
  xbC m ρ (peer c (slotOf i)) (xIx (128 * c.val + (i 0).val) ((i 1).val % 128) (rows_lt c (row_lt0 i)) (Nat.mod_lt _ (by decide)))

/-- `w` of device `c`, rounded. -/
def wbC (c : Dev nD) : FVec F S1024x1024 .bf16 := truncf (F := F) (s := S1024x1024) .bf16 (wstg m ρ c) bitsLt_bf16_f32

/-- The permuted, rounded `w` of device `c`: row block `k` holds the rows `[128 p, 128 p + 128)` for `p = peer c k`. -/
def wpC (c : Dev nD) : (cc0_scratch2 : Ref sig .tc).ty.Contents (Elt F) := fun (i : (S1024x1024).Idx) =>
  wbC m ρ c (wIx (128 * (peer c (wblkOf i)).val + (i 0).val % 128) (i 1).val (rows_lt _ (Nat.mod_lt _ (by decide))) (w_lt1 i))

/-! ## Blocks of the buffers as element sets -/

/-- The slots from `n` on; those before `n` with the device's own; the foreign ones from `n` on; those before `n`. -/
def From (n : Nat) : Finset (Fin 8) := Finset.univ.filter fun k => n ≤ k.val
def Upto (n : Nat) : Finset (Fin 8) := Finset.univ.filter fun k => k.val < n ∨ k = 7
def Left (n : Nat) : Finset (Fin 8) := Finset.univ.filter fun k => n ≤ k.val ∧ k ≠ 7
def Done (n : Nat) : Finset (Fin 8) := Finset.univ.filter fun k => k.val < n ∧ k ≠ 7

theorem From_step : ∀ k : Fin 8, k ≠ 7 → From k.val = insert k (From (k.val + 1)) := by decide
theorem From_notMem : ∀ k : Fin 8, k ∉ From (k.val + 1) := by decide
theorem Upto_step : ∀ k : Fin 8, k ≠ 7 → Upto (k.val + 1) = insert k (Upto k.val) := by decide
theorem Upto_notMem : ∀ k : Fin 8, k ≠ 7 → k ∉ Upto k.val := by decide
theorem Left_step : ∀ k : Fin 8, k ≠ 7 → Left k.val = insert k (Left (k.val + 1)) := by decide
theorem Left_notMem : ∀ k : Fin 8, k ∉ Left (k.val + 1) := by decide
theorem Done_step : ∀ k : Fin 8, k ≠ 7 → Done (k.val + 1) = insert k (Done k.val) := by decide
theorem Done_notMem : ∀ k : Fin 8, k ∉ Done k.val := by decide
theorem From_zero : From 0 = Finset.univ := by decide
theorem From_seven : From 7 = {7} := by decide
theorem Upto_zero : Upto 0 = {7} := by decide
theorem Upto_seven : Upto 7 = Finset.univ := by decide
theorem Left_seven : Left 7 = ∅ := by decide
theorem Done_zero : Done 0 = ∅ := by decide
theorem Done_seven : Done 7 = Finset.univ.erase 7 := by decide
theorem Left_zero : Left 0 = Finset.univ.erase 7 := by decide
theorem Left_mem : ∀ k : Fin 8, k ≠ 7 → k ∈ Left 0 := by decide

def slotSet (k : Fin 8) : Finset (S128x1024).Idx := (slotM k).view.set
def blkSet (d : Dev nD) : Finset (S1024x128).Idx := (blkM d).view.set

theorem mem_slotSet {k : Fin 8} {i : (S128x1024).Idx} : i ∈ slotSet k ↔ slotOf i = k := by
  show i ∈ ((View.whole cc0_scratch1).slice (Rect.unit (s := S128x1024) ![0, 128 * k.val] S128x128.size (slot_inb k))).set ↔ _
  rw [View.set_slice_whole, Rect.mem_set_unit]
  have h0 := row_lt0 i
  have h1 := row_lt1 i
  constructor
  · intro h
    have := h 1
    have e : (128 * k.val ≤ (i 1).val ∧ (i 1).val < 128 * k.val + 128) := this
    apply Fin.ext; show (i 1).val / 128 = k.val; omega
  · intro h
    have e : (i 1).val / 128 = k.val := congrArg Fin.val h
    intro a; fin_cases a
    · exact ⟨Nat.zero_le _, by show (i 0).val < 0 + 128; omega⟩
    · exact ⟨by show 128 * k.val ≤ (i 1).val; omega, by show (i 1).val < 128 * k.val + 128; omega⟩

theorem x_lt0 (i : (S1024x128).Idx) : (i 0).val < 1024 := (i 0).isLt
theorem x_lt1 (i : (S1024x128).Idx) : (i 1).val < 128 := (i 1).isLt

theorem mem_blkSet {d : Dev nD} {i : (S1024x128).Idx} : i ∈ blkSet d ↔ (i 0).val / 128 = d.val := by
  show i ∈ ((View.whole cc0_scratch0).slice (Rect.unit (s := S1024x128) ![128 * d.val, 0] S128x128.size (blk_inb d))).set ↔ _
  rw [View.set_slice_whole, Rect.mem_set_unit]
  have h0 := x_lt0 i
  have h1 := x_lt1 i
  constructor
  · intro h
    have := h 0
    have e : (128 * d.val ≤ (i 0).val ∧ (i 0).val < 128 * d.val + 128) := this
    omega
  · intro e
    intro a; fin_cases a
    · exact ⟨by show 128 * d.val ≤ (i 0).val; omega, by show (i 0).val < 128 * d.val + 128; omega⟩
    · exact ⟨Nat.zero_le _, by show (i 1).val < 0 + 128; omega⟩

theorem slotSet_disjoint {k k' : Fin 8} (h : k ≠ k') : Disjoint (slotSet k) (slotSet k') :=
  Finset.disjoint_left.mpr fun i hi hi' => h ((mem_slotSet.mp hi).symm.trans (mem_slotSet.mp hi'))
theorem blkSet_disjoint {d d' : Dev nD} (h : d ≠ d') : Disjoint (blkSet d) (blkSet d') :=
  Finset.disjoint_left.mpr fun i hi hi' => h (Fin.ext ((mem_blkSet.mp hi).symm.trans (mem_blkSet.mp hi')))

/-- The elements of the landing buffer in the slots `T`; of the rounded block of `x` in the rows for the devices paired in `T`. -/
def slots (T : Finset (Fin 8)) : Finset (S128x1024).Idx := T.biUnion slotSet
def blks (c : Dev nD) (T : Finset (Fin 8)) : Finset (S1024x128).Idx := T.biUnion fun k => blkSet (peer c k)

theorem mem_slots {T : Finset (Fin 8)} {i : (S128x1024).Idx} : i ∈ slots T ↔ slotOf i ∈ T := by
  unfold slots; rw [Finset.mem_biUnion]
  exact ⟨fun ⟨k, hk, h⟩ => (mem_slotSet.mp h).symm ▸ hk, fun h => ⟨_, h, mem_slotSet.mpr rfl⟩⟩
theorem slots_univ : slots Finset.univ = Finset.univ := by ext i; simp [mem_slots]
theorem blks_univ (c : Dev nD) : blks c Finset.univ = Finset.univ := by
  ext i
  unfold blks
  simp only [Finset.mem_biUnion, Finset.mem_univ, true_and, iff_true]
  obtain ⟨k, hk⟩ := peer_surj c ⟨(i 0).val / 128, by have := x_lt0 i; show _ < 8; omega⟩
  exact ⟨k, mem_blkSet.mpr (by rw [hk])⟩
theorem slots_insert {k : Fin 8} {T : Finset (Fin 8)} : slots (insert k T) = slotSet k ∪ slots T := by
  unfold slots; rw [Finset.biUnion_insert]
theorem blks_insert {c : Dev nD} {k : Fin 8} {T : Finset (Fin 8)} : blks c (insert k T) = blkSet (peer c k) ∪ blks c T := by
  unfold blks; rw [Finset.biUnion_insert]
theorem slots_disjoint {k : Fin 8} {T : Finset (Fin 8)} (h : k ∉ T) : Disjoint (slotSet k) (slots T) := by
  unfold slots; rw [Finset.disjoint_biUnion_right]
  exact fun j hj => slotSet_disjoint fun e => h (e ▸ hj)
theorem blks_disjoint {c : Dev nD} {k : Fin 8} {T : Finset (Fin 8)} (h : k ∉ T) : Disjoint (blkSet (peer c k)) (blks c T) := by
  unfold blks; rw [Finset.disjoint_biUnion_right]
  exact fun j hj => blkSet_disjoint fun e => h (peer_inj c e ▸ hj)

/-! ## The buffers held, in part -/

/-- Slot `k` of device `c`'s landing buffer at contents `f`. -/
def slotPts (c : Dev nD) (k : Fin 8) (f : Buf (Elt F) ((c : Thread nD τ).loc cc0_scratch1)) : sProp 𝕄 :=
  (slotM k).view.loc (c : Thread nD τ) ↦[(slotM k).view.set]{fullShare} f
/-- The slots `T` of device `c`'s landing buffer. -/
def rowPts (c : Dev nD) (T : Finset (Fin 8)) (f : Buf (Elt F) ((c : Thread nD τ).loc cc0_scratch1)) : sProp 𝕄 :=
  rowM.view.loc (c : Thread nD τ) ↦[slots T]{fullShare} f
/-- The rows for device `d` of device `c`'s rounded block of `x`, at its contents. -/
def blkPts (c d : Dev nD) : sProp 𝕄 :=
  (blkM d).view.loc (c : Thread nD τ) ↦[(blkM d).view.set]{fullShare} xbC m ρ c
/-- The rows for the devices paired with `c` in the slots `T`. -/
def xbPts (c : Dev nD) (T : Finset (Fin 8)) : sProp 𝕄 :=
  xbM.view.loc (c : Thread nD τ) ↦[blks c T]{fullShare} xbC m ρ c

instance slotPts_storable (c : Dev nD) (k f) : BI.Storable (upEmb : UEmb _ 𝕄) (slotPts (F := F) c k f) := by unfold slotPts; infer_instance
instance blkPts_storable (c d : Dev nD) : BI.Storable (upEmb : UEmb _ 𝕄) (blkPts (F := F) m ρ c d) := by unfold blkPts; infer_instance

theorem rowPts_insert {c : Dev nD} {k : Fin 8} {T : Finset (Fin 8)} (h : k ∉ T) (f : Buf (Elt F) ((c : Thread nD τ).loc cc0_scratch1)) :
    (rowPts c (insert k T) f : sProp 𝕄) ⊣⊢ iprop(slotPts c k f ∗ rowPts c T f) := by
  unfold rowPts slotPts; rw [slots_insert]
  exact pointsTo_union (slots_disjoint h)
theorem xbPts_insert {c : Dev nD} {k : Fin 8} {T : Finset (Fin 8)} (h : k ∉ T) :
    (xbPts m ρ c (insert k T) : sProp 𝕄) ⊣⊢ iprop(blkPts m ρ c (peer c k) ∗ xbPts m ρ c T) := by
  unfold xbPts blkPts; rw [blks_insert]
  exact pointsTo_union (blks_disjoint h)
theorem rowPts_univ (c : Dev nD) (f : Buf (Elt F) ((c : Thread nD τ).loc cc0_scratch1)) :
    rowPts c Finset.univ f = (((c : Thread nD τ).loc cc0_scratch1) ↦{fullShare} f : sProp 𝕄) := by
  unfold rowPts; rw [slots_univ]
theorem xbPts_univ (c : Dev nD) :
    xbPts m ρ c Finset.univ = (((c : Thread nD τ).loc cc0_scratch0) ↦{fullShare} xbC m ρ c : sProp 𝕄) := by
  unfold xbPts; rw [blks_univ]

/-! ## The schedule -/

/-- What the signal in slot `k` of device `peer c k` to device `c` hands over: that device's landing slot `k`. -/
def barPay (c : Dev nD) (k : Fin 8) : sProp 𝕄 := iprop(∃ f, slotPts (peer c k) k f)
/-- What a landing in slot `k` of device `c` hands over: the slot, holding its part of the contents `rowC`. -/
def recvPay (c : Dev nD) (k : Fin 8) : sProp 𝕄 := slotPts c k (rowC m ρ c)
/-- What the end of device `c`'s transfer of slot `k` gives back: the rows it read. -/
def sendPay (c : Dev nD) (k : Fin 8) : sProp 𝕄 := blkPts m ρ c (peer c k)

/-- One round, round 0. A barrier cell has a duty of one unit for each of the seven foreign slots; the send and the
    receive cell of a foreign slot have one duty, of a block's credit; every other cell has none. -/
def sched : Rounds.Schedule (GSem nD τ sig) (Fin 8) 𝕄 where
  duties g r := if r = 0 ∧ g.1.2 = .tc then
      (match use g.2 with
        | .bar => Finset.univ.erase 7
        | .snd k => if k = 7 then ∅ else {0}
        | .rcv k => if k = 7 then ∅ else {0}
        | .other => ∅)
    else ∅
  unitless _ := False
  amount g _ _ := if use g.2 = .bar then 1 else N
  payload g _ d := match use g.2 with
    | .bar => barPay g.1.1 d
    | .snd k => sendPay m ρ g.1.1 k
    | .rcv k => recvPay m ρ g.1.1 k
    | .other => iprop(emp)
  amount_pos g _ _ _ := by
    by_cases h : use g.2 = .bar
    · rw [if_pos h]; exact Nat.one_pos
    · rw [if_neg h]; exact N_pos

instance sched_payload_storable (g : GSem nD τ sig) (r : ℕ) (d : Fin 8) :
    BI.Storable (upEmb : UEmb _ 𝕄) ((sched (F := F) m ρ).payload g r d) := by
  show BI.Storable upEmb (match use g.2 with
    | .bar => barPay g.1.1 d
    | .snd k => sendPay m ρ g.1.1 k
    | .rcv k => recvPay m ρ g.1.1 k
    | .other => iprop(emp))
  unfold barPay recvPay sendPay
  split <;> infer_instance

section Sched
variable (c : Dev nD) (k : Fin 8)

theorem duties_bar : (sched (F := F) m ρ).duties (barCell c) 0 = Finset.univ.erase 7 := by
  dsimp only [sched]; rw [if_pos ⟨rfl, rfl⟩, use_bar]
theorem duties_send (h : k ≠ 7) : (sched (F := F) m ρ).duties (sendCell c k) 0 = {0} := by
  dsimp only [sched]; rw [if_pos ⟨rfl, rfl⟩, use_send]; exact if_neg h
theorem duties_recv (h : k ≠ 7) : (sched (F := F) m ρ).duties (recvCell c k) 0 = {0} := by
  dsimp only [sched]; rw [if_pos ⟨rfl, rfl⟩, use_recv]; exact if_neg h
theorem duties_send_own : (sched (F := F) m ρ).duties (sendCell c 7) 0 = ∅ := by
  dsimp only [sched]; rw [if_pos ⟨rfl, rfl⟩, use_send]; exact if_pos rfl
theorem duties_recv_own : (sched (F := F) m ρ).duties (recvCell c 7) 0 = ∅ := by
  dsimp only [sched]; rw [if_pos ⟨rfl, rfl⟩, use_recv]; exact if_pos rfl
theorem duties_later (g : GSem nD τ sig) : ∀ r, 1 ≤ r → (sched (F := F) m ρ).duties g r = ∅ :=
  fun r hr => by dsimp only [sched]; rw [if_neg fun h => by omega]
theorem duties_send_none : ∀ r, 0 ≤ r → (sched (F := F) m ρ).duties (sendCell c 7) r = ∅ := fun r _ => by
  rcases Nat.eq_zero_or_pos r with rfl | h
  · exact duties_send_own m ρ c
  · exact duties_later m ρ _ r h
theorem duties_recv_none : ∀ r, 0 ≤ r → (sched (F := F) m ρ).duties (recvCell c 7) r = ∅ := fun r _ => by
  rcases Nat.eq_zero_or_pos r with rfl | h
  · exact duties_recv_own m ρ c
  · exact duties_later m ρ _ r h

theorem amount_bar (d : Fin 8) : (sched (F := F) m ρ).amount (barCell c) 0 d = 1 := by dsimp only [sched]; exact if_pos use_bar
theorem amount_send (d : Fin 8) : (sched (F := F) m ρ).amount (sendCell c k) 0 d = N := by
  dsimp only [sched]; rw [use_send]; exact if_neg (fun h => by cases h)
theorem amount_recv (d : Fin 8) : (sched (F := F) m ρ).amount (recvCell c k) 0 d = N := by
  dsimp only [sched]; rw [use_recv]; exact if_neg (fun h => by cases h)

theorem expect_bar : (sched (F := F) m ρ).expect (barCell c) 0 = 7 := by
  unfold Schedule.expect Schedule.amountOf
  rw [duties_bar, Finset.sum_congr rfl fun d _ => amount_bar m ρ c d]; decide
theorem expect_send (h : k ≠ 7) : (sched (F := F) m ρ).expect (sendCell c k) 0 = N := by
  unfold Schedule.expect Schedule.amountOf; rw [duties_send m ρ c k h, Finset.sum_singleton, amount_send]
theorem expect_recv (h : k ≠ 7) : (sched (F := F) m ρ).expect (recvCell c k) 0 = N := by
  unfold Schedule.expect Schedule.amountOf; rw [duties_recv m ρ c k h, Finset.sum_singleton, amount_recv]

theorem payload_bar (d : Fin 8) : (sched (F := F) m ρ).payload (barCell c) 0 d = barPay c d := by dsimp only [sched]; rw [use_bar]
theorem payload_send (d : Fin 8) : (sched (F := F) m ρ).payload (sendCell c k) 0 d = sendPay m ρ c k := by dsimp only [sched]; rw [use_send]
theorem payload_recv (d : Fin 8) : (sched (F := F) m ρ).payload (recvCell c k) 0 d = recvPay m ρ c k := by dsimp only [sched]; rw [use_recv]

theorem rest_bar : bigSep ((sched (F := F) m ρ).duties (barCell c) 0 \ ∅) (fun d => (sched (F := F) m ρ).payload (barCell c) 0 d)
    = bigSep (Finset.univ.erase 7) fun d => barPay c d := by
  rw [Finset.sdiff_empty, duties_bar]; exact bigSep_congr fun d _ => payload_bar m ρ c d
theorem rest_send (h : k ≠ 7) : bigSep ((sched (F := F) m ρ).duties (sendCell c k) 0 \ ∅) (fun d => (sched (F := F) m ρ).payload (sendCell c k) 0 d) = sendPay m ρ c k := by
  rw [Finset.sdiff_empty, duties_send m ρ c k h, bigSep_singleton, payload_send]
theorem rest_recv (h : k ≠ 7) : bigSep ((sched (F := F) m ρ).duties (recvCell c k) 0 \ ∅) (fun d => (sched (F := F) m ρ).payload (recvCell c k) 0 d) = recvPay m ρ c k := by
  rw [Finset.sdiff_empty, duties_recv m ρ c k h, bigSep_singleton, payload_recv]

end Sched

/-! ## What each core owes at launch; the levels -/

/-- Device `c` still owes the receive cells its transfers of the slots from `n` on will credit; -/
def Osnd (c : Dev nD) (n : Nat) : CellTallies nD τ sig Unit := ∑ k ∈ Left n, tallyAt (recvCell (peer c k) k) () N
/-- and, before its barrier wait, the barrier cells it will signal for the slots from `n` on. -/
def Obar (c : Dev nD) (n : Nat) : CellTallies nD τ sig Unit := Osnd c 0 + ∑ k ∈ Left n, tallyAt (barCell (peer c k)) () 1

theorem Osnd_step (c : Dev nD) (k : Fin 8) (h : k ≠ 7) : Osnd c k.val = Osnd c (k.val + 1) + tallyAt (recvCell (peer c k) k) () N := by
  unfold Osnd; rw [Left_step k h, Finset.sum_insert (Left_notMem k), add_comm]
theorem Obar_step (c : Dev nD) (k : Fin 8) (h : k ≠ 7) : Obar c k.val = Obar c (k.val + 1) + tallyAt (barCell (peer c k)) () 1 := by
  unfold Obar; rw [Left_step k h, Finset.sum_insert (Left_notMem k), add_comm (tallyAt _ _ _), add_assoc]
theorem Osnd_seven (c : Dev nD) : Osnd c 7 = 0 := by unfold Osnd; rw [Left_seven, Finset.sum_empty]
theorem Obar_seven (c : Dev nD) : Obar c 7 = Osnd c 0 := by unfold Obar; rw [Left_seven, Finset.sum_empty, add_zero]

def L (g : GSem nD τ sig) : Finset Unit := if g.1.2 = .tc then {()} else ∅
/-- Barrier cells at 1, receive cells at 2, everything else (staging, send) at 0. -/
def lv (g : GSem nD τ sig) (_ : Unit) : ℕ := match use g.2 with
  | .bar => 1
  | .rcv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_tally_apply (T : Finset (Fin 8)) (cell : Fin 8 → GSem nD τ sig) (n : ℕ) (g : GSem nD τ sig) (u : Unit) :
    (∑ k ∈ T, (tallyAt (cell k) () n : CellTallies nD τ sig Unit)) g u = ∑ k ∈ T, if g = cell k then n else 0 := by
  rw [Finset.sum_apply, Finsupp.finsetSum_apply]
  exact Finset.sum_congr rfl fun k _ => by
    rw [tallyAt_apply]; cases u; simp only [and_true]

theorem sum_tally_pos {T : Finset (Fin 8)} {cell : Fin 8 → GSem nD τ sig} {n : ℕ} {g : GSem nD τ sig} {u : Unit}
    (h : 0 < (∑ k ∈ T, (tallyAt (cell k) () n : CellTallies nD τ sig Unit)) g u) : ∃ k, g = cell k := by
  rw [sum_tally_apply] at h
  by_contra hn
  rw [not_exists] at hn
  rw [Finset.sum_eq_zero fun k _ => if_neg (hn k)] at h
  exact Nat.lt_irrefl 0 h

theorem Osnd_pos {c : Dev nD} {n : Nat} {g : GSem nD τ sig} {u : Unit} (h : 0 < Osnd c n g u) : ∃ k, g = recvCell (peer c k) k :=
  sum_tally_pos h
theorem Obar_pos {c : Dev nD} {n : Nat} {g : GSem nD τ sig} {u : Unit} (h : 0 < Obar c n g u) :
    (∃ k, g = recvCell (peer c k) k) ∨ ∃ k, g = barCell (peer c k) := by
  unfold Obar at h
  rw [Pi.add_apply, Finsupp.add_apply] at h
  rcases Nat.eq_zero_or_pos (Osnd c 0 g u) with h0 | h0
  · rw [h0, Nat.zero_add] at h; exact Or.inr (sum_tally_pos h)
  · exact Or.inl (Osnd_pos h0)

theorem lv_recv (c : Dev nD) (k : Fin 8) (u : Unit) : lv (recvCell c k) u = 2 := by unfold lv; rw [use_recv]
theorem lv_bar (c : Dev nD) (u : Unit) : lv (barCell c) u = 1 := by unfold lv; rw [use_bar]

/-- A wait on a staging semaphore, below everything owed at launch. -/
theorem mayWait_stage (c : Dev nD) (q : DmaSem sig) (hq : q.val < 3) (O : CellTallies nD τ sig Unit) (hO : O = Obar c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Obar_pos hg with ⟨k, rfl⟩ | ⟨k, rfl⟩ <;> exact Finset.mem_singleton_self _)
      (fun p hp => by
        rw [Finset.mem_singleton.mp hp]; unfold lv
        rw [show use (SemLoc.dma q) = .other from dif_pos hq])
      (fun g u hg => by
        rcases Obar_pos hg with ⟨k, rfl⟩ | ⟨k, rfl⟩
        · rw [lv_recv]; decide
        · rw [lv_bar]; decide)
  · rw [MayWait_zero]; iintro -; iempintro

/-- At its barrier wait a device owes receive credits only: receive cells, above its barrier cell. -/
theorem mayWait_bar (c : Dev nD) : (levAts L lv : sProp 𝕄) ⊢ MayWait (c : Thread nD τ) (.reg barS) () (Osnd c 0) :=
  MayOwe.of_cut (L := L) (lev := lv) 1 (fun p hp => by rw [Finset.mem_singleton.mp hp, L_tc]; exact Finset.mem_singleton_self _)
    (fun g u hg => by obtain ⟨k, rfl⟩ := Osnd_pos hg; exact Finset.mem_singleton_self _)
    (fun p hp => by rw [Finset.mem_singleton.mp hp, lv_bar])
    (fun g u hg => by obtain ⟨k, rfl⟩ := Osnd_pos hg; rw [lv_recv]; decide)

end Cert.KernelIdeal.Exchange

end
-- ==== Proof.Copies.lean ====
/-
What one copy of a block leaves: the blocks of `x` in the slots of the landing buffer, the rows of `w` in the row blocks of
the permuted `w`.
-/
module

public import proofs.«01_k».proof.Proof.Proto

@[expose] public section

noncomputable section

namespace Cert.KernelIdeal.Exchange

open Cert.KernelIdeal Cert.KernelIdeal.Gen

open Idealize.ShloMosaic
open Idealize.ShloMosaic.TcCoe
open Idealize.ShloMosaic.Pipeline

variable {F : FTy → Type} [FloatOps F]

variable (m : (ℓ : Loc nD τ sig) → Buf (Elt F) ℓ) (ρ : Dev nD → PrngReg)

/-! ## Coordinates of the blocks' elements -/

theorem slot_emb (k : Fin 8) (j : (S128x128).Idx) (a : Fin 2) :
    ((slotM k).view.emb j a : Nat) = (![0, 128 * k.val] : Fin 2 → Nat) a + (j a).val :=
  ValueKit.view_emb_slice_whole_unit_val cc0_scratch1 ![0, 128 * k.val] S128x128.size (slot_inb k) j a
theorem blk_emb (d : Dev nD) (j : (S128x128).Idx) (a : Fin 2) :
    ((blkM d).view.emb j a : Nat) = (![128 * d.val, 0] : Fin 2 → Nat) a + (j a).val :=
  ValueKit.view_emb_slice_whole_unit_val cc0_scratch0 ![128 * d.val, 0] S128x128.size (blk_inb d) j a

theorem b_lt0 (j : (S128x128).Idx) : (j 0).val < 128 := (j 0).isLt
theorem b_lt1 (j : (S128x128).Idx) : (j 1).val < 128 := (j 1).isLt

/-- The contents `rowC` at an element of slot `k`, from the block of `peer c k`. -/
theorem rowC_slot (c : Dev nD) (k : Fin 8) (i : (S128x1024).Idx) (hi : slotOf i = k) (y : (S1024x128).Idx)
    (h0 : (y 0).val = 128 * c.val + (i 0).val) (h1 : (y 1).val = (i 1).val % 128) :
    rowC m ρ c i = xbC m ρ (peer c k) y := by
  subst hi
  refine congrArg (xbC m ρ (peer c (slotOf i))) (funext fun a => Fin.ext ?_)
  fin_cases a
  · exact h0.symm
  · exact h1.symm

/-- A block of `x` written into its slot of the landing buffer is the part of `rowC` there. -/
theorem landed (c : Dev nD) (k : Fin 8) (fd : (cc0_scratch1 : Ref sig .tc).ty.Contents (Elt F)) :
    ∀ i ∈ (slotM k).view.set, (slotM k).view.write (Elt F) fd ((blkM (peer c k)).view.read (Elt F) (xbC m ρ c)) Finset.univ i
      = rowC m ρ (peer c k) i := by
  intro i hi
  have hk : slotOf i = k := mem_slotSet.mp hi
  obtain ⟨j, -, rfl⟩ := Finset.mem_map.mp hi
  refine (View.write_emb_of_mem _ _ (Finset.mem_univ j)).trans ?_
  have e := rowC_slot m ρ (peer c k) k _ hk ((blkM (peer c k)).view.emb j) (by
    rw [blk_emb]; have := slot_emb k j 0
    show 128 * (peer c k).val + (j 0).val = 128 * (peer c k).val + ((slotM k).view.emb j 0).val
    rw [this]; show _ = _ + (0 + _); omega) (by
    rw [blk_emb]; have := slot_emb k j 1; have hj := b_lt1 j
    show 0 + (j 1).val = ((slotM k).view.emb j 1).val % 128
    rw [this]; show _ = (128 * k.val + _) % 128; omega)
  rw [e, peer_peer]
  rfl

/-- Likewise the device's own block, copied into slot 7. -/
theorem own_slot (c : Dev nD) (f : (cc0_scratch1 : Ref sig .tc).ty.Contents (Elt F)) {off : Fin 2 → Nat} (hoff : off = ![128 * (peer c 7).val, 0])
    {hinb : ∀ a, off a + S128x128.size a ≤ S1024x128.size a} {hinb' : ∀ a, (![0, 896] : Fin 2 → Nat) a + S128x128.size a ≤ S128x1024.size a} :
    ∀ i ∈ slots (Upto 0), (rowM.access (Rect.unit (s := S128x1024) ![0, 896] S128x128.size hinb')).write (Elt F) f
      (k0_pay3 (xbM.view.readAt (Elt F) (Rect.unit (s := S1024x128) off S128x128.size hinb).toLoadRect (xbC m ρ c))) Finset.univ i = rowC m ρ c i := by
  subst hoff
  intro i hi
  have hk : slotOf i = 7 := Finset.mem_singleton.mp (Upto_zero ▸ mem_slots.mp hi)
  have h := landed m ρ c 7 f i (mem_slotSet.mpr hk)
  rw [peer_own] at h
  have e : k0_pay3 (xbM.view.readAt (Elt F) (Rect.unit (s := S1024x128) ![128 * (peer c 7).val, 0] S128x128.size hinb).toLoadRect (xbC m ρ c))
      = (blkM (peer c 7)).view.read (Elt F) (xbC m ρ c) := by unfold k0_pay3; simp only [shapeCast_self]; rfl
  rw [e, peer_own]
  exact h

/-! ## The rows of `w` -/

theorem pay4_eq (v : Vec F S128x1024 .f32) : k0_pay4 v = truncf (F := F) (s := S128x1024) .bf16 v bitsLt_bf16_f32 := by unfold k0_pay4; simp only [shapeCast_self]
theorem pay5_eq (v : Vec F S128x1024 .f32) : k0_pay5 v = truncf (F := F) (s := S128x1024) .bf16 v bitsLt_bf16_f32 := by unfold k0_pay5; simp only [shapeCast_self]
theorem pay76_eq (v : Vec F S128x1024 .f32) : k0_pay7 (k0_pay6 v) = truncf (F := F) (s := S128x1024) .bf16 v bitsLt_bf16_f32 := by
  unfold k0_pay7 k0_pay6; simp only [shapeCast_self]
theorem pay8_eq (v : Vec F S128x1024 .f32) : k0_pay8 v = truncf (F := F) (s := S128x1024) .bf16 v bitsLt_bf16_f32 := by unfold k0_pay8; simp only [shapeCast_self]
theorem pay9_eq (v : Vec F S128x1024 .f32) : k0_pay9 v = truncf (F := F) (s := S128x1024) .bf16 v bitsLt_bf16_f32 := by unfold k0_pay9; simp only [shapeCast_self]
theorem pay1110_eq (v : Vec F S128x1024 .f32) : k0_pay11 (k0_pay10 v) = truncf (F := F) (s := S128x1024) .bf16 v bitsLt_bf16_f32 := by
  unfold k0_pay11 k0_pay10; simp only [shapeCast_self]
theorem pay12_eq (v : Vec F S128x1024 .f32) : k0_pay12 v = truncf (F := F) (s := S128x1024) .bf16 v bitsLt_bf16_f32 := by unfold k0_pay12; simp only [shapeCast_self]
theorem pay13_eq (v : Vec F S128x1024 .f32) : k0_pay13 v = truncf (F := F) (s := S128x1024) .bf16 v bitsLt_bf16_f32 := by unfold k0_pay13; simp only [shapeCast_self]

/-- The permuted `w` after the copies of the row blocks before `n`. -/
def WpTo (c : Dev nD) (n : Nat) (f : (cc0_scratch2 : Ref sig .tc).ty.Contents (Elt F)) : Prop :=
  ∀ i : (S1024x1024).Idx, (i 0).val < 128 * n → f i = wpC m ρ c i

theorem WpTo_all (c : Dev nD) {f : (cc0_scratch2 : Ref sig .tc).ty.Contents (Elt F)} (h : WpTo m ρ c 8 f) : f = wpC m ρ c :=
  funext fun i => h i (by have := w_lt0 i; omega)
theorem WpTo_none (c : Dev nD) (f : (cc0_scratch2 : Ref sig .tc).ty.Contents (Elt F)) : WpTo m ρ c 0 f :=
  fun i h => absurd h (Nat.not_lt_zero _)

/-- The copy of row block `k`: the rows `[128 p, 128 p + 128)` of `w`, `p = peer c k`, rounded. -/
theorem w_copy (c : Dev nD) (k : Fin 8) {f : (cc0_scratch2 : Ref sig .tc).ty.Contents (Elt F)} (h : WpTo m ρ c k.val f)
    {off off' : Fin 2 → Nat} (hoff : off = ![128 * (peer c k).val, 0]) (hoff' : off' = ![128 * k.val, 0])
    {hinb : ∀ a, off a + S128x1024.size a ≤ S1024x1024.size a} {hinb' : ∀ a, off' a + S128x1024.size a ≤ S1024x1024.size a} :
    WpTo m ρ c (k.val + 1) ((wpM.access (Rect.unit (s := S1024x1024) off' S128x1024.size hinb')).write (Elt F) f
      (truncf (F := F) (s := S128x1024) .bf16 (wM.view.readAt (Elt F) (Rect.unit (s := S1024x1024) off S128x1024.size hinb).toLoadRect (wstg m ρ c)) bitsLt_bf16_f32)
      Finset.univ) := by
  subst hoff; subst hoff'
  intro i hi
  by_cases hin : i ∈ (wpM.access (Rect.unit (s := S1024x1024) ![128 * k.val, 0] S128x1024.size hinb')).setOn Finset.univ
  · obtain ⟨j, -, rfl⟩ := Finset.mem_map.mp hin
    refine (View.write_emb_of_mem _ _ (Finset.mem_univ j)).trans ?_
    have e0 : ((wpM.access (Rect.unit (s := S1024x1024) ![128 * k.val, 0] S128x1024.size hinb')).emb j 0).val = 128 * k.val + (j 0).val :=
      ValueKit.view_emb_slice_whole_unit_val cc0_scratch2 ![128 * k.val, 0] S128x1024.size hinb' j 0
    have e1 : ((wpM.access (Rect.unit (s := S1024x1024) ![128 * k.val, 0] S128x1024.size hinb')).emb j 1).val = 0 + (j 1).val :=
      ValueKit.view_emb_slice_whole_unit_val cc0_scratch2 ![128 * k.val, 0] S128x1024.size hinb' j 1
    have g0 : ((wM.access (Rect.unit (s := S1024x1024) ![128 * (peer c k).val, 0] S128x1024.size hinb)).emb j 0).val = 128 * (peer c k).val + (j 0).val :=
      ValueKit.view_emb_slice_whole_unit_val cc0_stg1_0 ![128 * (peer c k).val, 0] S128x1024.size hinb j 0
    have g1 : ((wM.access (Rect.unit (s := S1024x1024) ![128 * (peer c k).val, 0] S128x1024.size hinb)).emb j 1).val = 0 + (j 1).val :=
      ValueKit.view_emb_slice_whole_unit_val cc0_stg1_0 ![128 * (peer c k).val, 0] S128x1024.size hinb j 1
    have hj := row_lt0 j
    generalize (wpM.access (Rect.unit (s := S1024x1024) ![128 * k.val, 0] S128x1024.size hinb')).emb j = i' at e0 e1 ⊢
    have hb : wblkOf i' = k := Fin.ext (show (i' 0).val / 128 = k.val by omega)
    show FloatOps.truncf (F := F) .bf16 bitsLt_bf16_f32 (wstg m ρ c ((wM.access (Rect.unit (s := S1024x1024) ![128 * (peer c k).val, 0] S128x1024.size hinb)).emb j))
      = FloatOps.truncf (F := F) .bf16 bitsLt_bf16_f32 (wstg m ρ c (wIx (128 * (peer c (wblkOf i')).val + (i' 0).val % 128) (i' 1).val (rows_lt _ (Nat.mod_lt _ (by decide))) (w_lt1 i')))
    congr 2
    funext a
    apply Fin.ext
    fin_cases a
    · refine g0.trans ?_
      show _ = 128 * (peer c (wblkOf i')).val + (i' 0).val % 128
      rw [hb, e0]; omega
    · refine g1.trans ?_
      show _ = (i' 1).val
      rw [e1]
  · refine (View.write_of_not_mem (v := wpM.access (Rect.unit (s := S1024x1024) ![128 * k.val, 0] S128x1024.size hinb')) f _ _ hin).trans ?_
    refine h i ?_
    by_contra hge
    apply hin
    show i ∈ ((View.whole cc0_scratch2).slice (Rect.unit (s := S1024x1024) ![128 * k.val, 0] S128x1024.size hinb')).set
    rw [View.set_slice_whole, Rect.mem_set_unit]
    have h1 := w_lt1 i
    intro a; fin_cases a
    · exact ⟨by show 128 * k.val ≤ (i 0).val; omega, by show (i 0).val < 128 * k.val + 128; omega⟩
    · exact ⟨Nat.zero_le _, by show (i 1).val < 0 + 1024; omega⟩

/-- The elements of the landing buffer a load of its columns `[q, q + n)` reads lie in the slots that are in. -/
theorem row_cols (T : Finset (Fin 8)) {off size : Fin 2 → Nat} {hinb : ∀ a, off a + size a ≤ S128x1024.size a}
    (hT : ∀ k : Fin 8, off 1 / 128 ≤ k.val → k.val * 128 < off 1 + size 1 → k ∈ T) :
    rowM.view.setOn (Rect.unit (s := S128x1024) off size hinb).toLoadRect.set ⊆ slots T := by
  intro i hi
  have hi : i ∈ ((View.whole cc0_scratch1).slice (Rect.unit (s := S128x1024) off size hinb)).set := by
    rw [View.set_slice_whole]
    obtain ⟨j, hj, rfl⟩ := Finset.mem_map.mp hi
    exact hj
  rw [View.set_slice_whole, Rect.mem_set_unit] at hi
  have h1 : off 1 ≤ (i 1).val ∧ (i 1).val < off 1 + size 1 := hi 1
  refine mem_slots.mpr (hT _ ?_ ?_)
  · exact Nat.div_le_div_right h1.1
  · show (i 1).val / 128 * 128 < _
    omega

/-- The load of the device's own rows, and the store in slot 7. -/
theorem own_rows (c : Dev nD) {off : Fin 2 → Nat} (hoff : off = ![128 * (peer c 7).val, 0]) {hinb : ∀ a, off a + S128x128.size a ≤ S1024x128.size a} :
    xbM.view.setOn (Rect.unit (s := S1024x128) off S128x128.size hinb).toLoadRect.set ⊆ blks c {7} := by
  subst hoff
  intro i hi
  unfold blks
  rw [Finset.singleton_biUnion]
  obtain ⟨j, hj, rfl⟩ := Finset.mem_map.mp hi
  show j ∈ ((View.whole cc0_scratch0).slice (Rect.unit (s := S1024x128) ![128 * (peer c 7).val, 0] S128x128.size (blk_inb _))).set
  rw [View.set_slice_whole]
  exact hj
theorem own_store {hinb : ∀ a, (![0, 896] : Fin 2 → Nat) a + S128x128.size a ≤ S128x1024.size a} :
    (rowM.access (Rect.unit (s := S128x1024) ![0, 896] S128x128.size hinb)).setOn Finset.univ ⊆ slots (Upto 0) := by
  unfold slots
  rw [Upto_zero, Finset.singleton_biUnion]
  exact Finset.Subset.refl _

end Cert.KernelIdeal.Exchange

end
-- ==== Proof.Steps.lean ====
/-
One effect of the kernel's body at a time, for a slot `k` left open: a signal, a transfer, a wait on a receive or a send
cell, the copy of one row block of `w`. Each step takes what the device holds before it to what it holds after.
-/
module

public import proofs.«01_k».proof.Proof.Copies

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

theorem bigSep_ins {k : Fin 8} {T : Finset (Fin 8)} (h : k ∉ T) (Φ : Fin 8 → sProp 𝕄) :
    bigSep (insert k T) Φ = iprop(Φ k ∗ bigSep T Φ) := BI.bigSep_insert h

theorem univ_ins (Φ : Fin 8 → sProp 𝕄) : bigSep Finset.univ Φ = iprop(Φ 7 ∗ bigSep (Left 0) Φ) := by
  rw [show (Finset.univ : Finset (Fin 8)) = insert 7 (Left 0) by decide, bigSep_ins (by decide)]

/-! ## What everyone knows: the cells' invariants and that each has reached round 0 -/

def records (K : Dev nD × Fin 17 → ℕ) : sProp 𝕄 :=
  iprop((bigSep Finset.univ fun ck : Dev nD × Fin 17 => cellInv ER (sched m ρ) (K ck) (kcell ck))
    ∗ bigSep Finset.univ fun ck : Dev nD × Fin 17 => reached ER (kcell ck) 0)

instance records_persistent (K : Dev nD × Fin 17 → ℕ) : BI.Persistent (records m ρ K) := by unfold records; infer_instance

variable (K : Dev nD × Fin 17 → ℕ)

theorem all_inv (ck : Dev nD × Fin 17) :
    (bigSep Finset.univ fun ck : Dev nD × Fin 17 => (cellInv ER (sched m ρ) (K ck) (kcell ck) : sProp 𝕄)) ⊢ cellInv ER (sched m ρ) (K ck) (kcell ck) :=
  bigSep_elim (Finset.mem_univ ck)
theorem all_reached (ck : Dev nD × Fin 17) :
    (bigSep Finset.univ fun ck : Dev nD × Fin 17 => (reached ER (kcell ck) 0 : sProp 𝕄)) ⊢ reached ER (kcell ck) 0 :=
  bigSep_elim (Finset.mem_univ ck)
theorem inv_at (ck : Dev nD × Fin 17) : records m ρ K ⊢ cellInv ER (sched m ρ) (K ck) (kcell ck) := by
  unfold records
  iintro ⟨H, -⟩
  iapply (all_inv m ρ K ck); iexact H
theorem reached_at (ck : Dev nD × Fin 17) : records m ρ K ⊢ reached ER (kcell ck) 0 := by
  unfold records
  iintro ⟨-, H⟩
  iapply (all_reached (F := F) ck); iexact H

theorem kcell_bar (c : Dev nD) : kcell (c, 0) = barCell c := rfl
theorem kcell_send (c : Dev nD) (k : Fin 8) : kcell (c, jS k) = sendCell c k := by
  show ((c : Thread nD τ), csem (jS k)) = _; rw [csem_send]
theorem kcell_recv (c : Dev nD) (k : Fin 8) : kcell (c, jR k) = recvCell c k := by
  show ((c : Thread nD τ), csem (jR k)) = _; rw [csem_recv]

theorem inv_bar (c : Dev nD) : records m ρ K ⊢ cellInv ER (sched m ρ) (K (c, 0)) (barCell c) := inv_at m ρ K (c, 0)
theorem inv_send (c : Dev nD) (k : Fin 8) : records m ρ K ⊢ cellInv ER (sched m ρ) (K (c, jS k)) (sendCell c k) := by
  have := inv_at m ρ K (c, jS k); rwa [kcell_send] at this
theorem inv_recv (c : Dev nD) (k : Fin 8) : records m ρ K ⊢ cellInv ER (sched m ρ) (K (c, jR k)) (recvCell c k) := by
  have := inv_at m ρ K (c, jR k); rwa [kcell_recv] at this
theorem reached_bar (c : Dev nD) : records m ρ K ⊢ reached ER (barCell c) 0 := reached_at m ρ K (c, 0)
theorem reached_send (c : Dev nD) (k : Fin 8) : records m ρ K ⊢ reached ER (sendCell c k) 0 := by
  have := reached_at m ρ K (c, jS k); rwa [kcell_send] at this
theorem reached_recv (c : Dev nD) (k : Fin 8) : records m ρ K ⊢ reached ER (recvCell c k) 0 := by
  have := reached_at m ρ K (c, jR k); rwa [kcell_recv] at this

/-! ## The signals -/

/-- Before the signal of slot `n`: the signals and credits owed, the signals' duty tokens, the landing slots not yet lent. -/
def SigSt (c : Dev nD) (f : Buf (Elt F) ((c : Thread nD τ).loc cc0_scratch1)) (W : Waits sig Unit) (n : Nat) : sProp 𝕄 :=
  iprop(owes (c : Thread nD τ) (Obar c n) W ∗ (bigSep (Left n) fun k => dutyTok ER (barCell (peer c k)) 0 k) ∗ rowPts c (From n) f)

/-- The signal of slot `k`: it lends the slot to the device it names. -/
theorem sig_step (c : Dev nD) (k : Fin 8) (hk : k ≠ 7) (n : Dev nD) (hn : n = peer c k) (f : Buf (Elt F) ((c : Thread nD τ).loc cc0_scratch1))
    (W : Waits sig Unit) {a : ℕ} (ha : 1 = a) {α : Type} {Q : α → sProp 𝕄} {kont : PUnit → Prog (TpuEff nD τ sig (Elt F) Λ₀ .tc) α} :
    iprop(records m ρ K ∗ SigSt c f W k.val)
      ⊢ iprop((SigSt c f W (k.val + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS a) kont) Q) := by
  subst hn
  unfold SigSt
  rw [Left_step k hk, bigSep_ins (Left_notMem k), From_step k hk]
  iintro ⟨#HR, HO, ⟨Ht, Hts⟩, Hrow⟩ Hk
  ihave Hr := (rowPts_insert (From_notMem k) f).1 $$ Hrow
  icases Hr with ⟨Hslot, Hrow⟩
  iapply (Rounds.wp_signal 𝒱₀ ER (sched m ρ) (c : Thread nD τ) none (dst := (peer c k : Thread nD τ)) (κ := K (peer c k, 0))
      (d := k) (by rw [duties_bar]; exact Finset.mem_erase.mpr ⟨hk, Finset.mem_univ _⟩) ((amount_bar m ρ (peer c k) k).trans ha) ()
      (Obar c (k.val + 1)) (by subst ha; exact Obar_step c k hk)) $$ [HO Ht Hslot]
  · isplitr; · iapply (inv_bar m ρ K (peer c k)); iexact HR
    isplitl [HO]; · iexact HO
    isplitl [Ht]; · iexact Ht
    isplitl [Hslot]
    · rw [payload_bar]; unfold barPay; rw [peer_peer]
      iexists f; iexact Hslot
    · iapply (reached_bar m ρ K (peer c k)); iexact HR
  iintro HO
  iapply Hk
  isplitl [HO]; · iexact HO
  isplitl [Hts]; · iexact Hts
  iexact Hrow

/-! ## The transfers -/

/-- Before the transfer of slot `n`: the credits owed, the transfers' duty tokens, the peers' landing slots, the rows of the
    rounded block of `x` not yet in flight, and the credits on the send cells of the transfers made. -/
def SndSt (c : Dev nD) (W : Waits sig Unit) (n : Nat) : sProp 𝕄 :=
  iprop(owes (c : Thread nD τ) (Osnd c n) W ∗ (bigSep (Left n) fun k => dutyTok ER (sendCell c k) 0 0)
    ∗ (bigSep (Left n) fun k => dutyTok ER (recvCell (peer c k) k) 0 0) ∗ (bigSep (Left n) fun k => barPay c k)
    ∗ xbPts m ρ c (From n) ∗ (bigSep (Done n) fun k => cred (tallyAt (sendCell c k) () N)))

/-- The transfer of the block for `peer c k` into slot `k` there, from the cells' tokens. -/
theorem wp_send_slot (c : Dev nD) (k : Fin 8) (hk : k ≠ 7) {hsc : (slotM k).view.ref.isScScratch = false}
    {hsrc : (blkM (peer c k)).view.WordExact} {hdst : (slotM k).view.WordExact}
    {hsem : DmaTarget.Typed .vmem (.dma (recvS k)) (.remote (peer c k : Thread nD τ) (slotM k) (.dma (sendS k)) hsc)}
    (fd : Buf (Elt F) ((slotM k).view.loc (peer c k : Thread nD τ))) (W : Waits sig Unit)
    {α : Type} {Q : α → sProp 𝕄} {kont : PUnit → Prog (TpuEff nD τ sig (Elt F) Λ₀ .tc) α} :
    iprop(cellInv ER (sched m ρ) (K (c, jS k)) (sendCell c k) ∗ cellInv ER (sched m ρ) (K (peer c k, jR k)) (recvCell (peer c k) k)
        ∗ blkPts m ρ c (peer c k) ∗ slotPts (peer c k) k fd
        ∗ owes (c : Thread nD τ) (Osnd c k.val) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) (Osnd c (k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (blkM (peer c k)) (.remote (peer c k : Thread nD τ) (slotM k) (.dma (sendS k)) hsc) (.dma (recvS k)) hsrc hdst hsem) kont) Q) := by
  unfold blkPts slotPts
  have hpay₂ : ((slotM k).view.loc (peer c k : Thread nD τ) ↦[(slotM k).view.set]{fullShare}
        ((slotM k).view.write (Elt F) fd ((blkM (peer c k)).view.read (Elt F) (xbC m ρ c)) Finset.univ) : sProp 𝕄)
      ⊢ (sched m ρ).payload (recvCell (peer c k) k) 0 0 := by
    rw [payload_recv]; unfold recvPay slotPts; exact Entails.of_eq (pointsTo_congr (landed m ρ c k fd))
  have hpay₁ : ((blkM (peer c k)).view.loc (c : Thread nD τ) ↦[(blkM (peer c k)).view.set]{fullShare} xbC m ρ c : sProp 𝕄)
      ⊢ (sched m ρ).payload (sendCell c k) 0 0 := by
    rw [payload_send]; unfold sendPay blkPts; exact BI.Entails.refl _
  have hd₁ : (0 : Fin 8) ∈ (sched (F := F) m ρ).duties (sendCell c k) 0 := by rw [duties_send m ρ c k hk]; exact Finset.mem_singleton_self _
  have hd₂ : (0 : Fin 8) ∈ (sched (F := F) m ρ).duties (recvCell (peer c k) k) 0 := by
    rw [duties_recv m ρ (peer c k) k hk]; exact Finset.mem_singleton_self _
  have hN : (slotM k).view.amount (.dma (recvS k)) = N := N_slot k
  have hr : τ.routes (c : Thread nD τ) (peer c k : Thread nD τ) = true := by routes
  exact Rounds.wp_send_pointsTo (src := blkM (peer c k)) (dst := slotM k) (c' := (peer c k : Thread nD τ)) 𝒱₀ ER (sched m ρ) (c : Thread nD τ) none
    (κ₁ := K (c, jS k)) (κ₂ := K (peer c k, jR k)) (fs := xbC m ρ c) (fd := fd) hd₁ hd₂
    () () N hN (amount_send m ρ c k 0) (amount_recv m ρ (peer c k) k 0) (Osnd c (k.val + 1)) (Osnd_step c k hk) (W := W) hpay₁ hpay₂ hr

theorem snd_step (c : Dev nD) (k : Fin 8) (hk : k ≠ 7) (n : Dev nD) (hn : n = peer c k) (off : Fin 2 → Nat)
    (hoff : off = ![128 * (peer c k).val, 0]) {hinb : ∀ a, off a + S128x128.size a ≤ S1024x128.size a}
    (W : Waits sig Unit)
    {dst : Memref sig (n : Thread nD τ).2.kind .vmem S128x128 .bf16} (hd : dst = slotM k)
    {sS : SemLoc sig} (hsS : sS = .dma (sendS k)) {sR : SemLoc sig} (hsR : sR = .dma (recvS k))
    {hs1} {hsc : dst.view.ref.isScScratch = false}
    {hsrc : (xbM.slice (Rect.unit (s := S1024x128) off S128x128.size hinb) hs1).view.WordExact} {hdst : dst.view.WordExact}
    {hsem : DmaTarget.Typed .vmem sR (.remote (n : Thread nD τ) dst sS hsc)}
    {α : Type} {Q : α → sProp 𝕄} {kont : PUnit → Prog (TpuEff nD τ sig (Elt F) Λ₀ .tc) α} :
    iprop(records m ρ K ∗ SndSt m ρ c W k.val)
      ⊢ iprop((SndSt m ρ c W (k.val + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xbM.slice (Rect.unit (s := S1024x128) off S128x128.size hinb) hs1)
                (.remote (n : Thread nD τ) dst sS hsc) sR hsrc hdst hsem) kont) Q) := by
  subst hn; subst hoff; subst hd; subst hsS; subst hsR
  unfold SndSt
  rw [Left_step k hk, bigSep_ins (Left_notMem k), bigSep_ins (Left_notMem k), bigSep_ins (Left_notMem k), From_step k hk,
    Done_step k hk, bigSep_ins (Done_notMem k)]
  iintro ⟨#HR, HO, ⟨HtS, HtSs⟩, ⟨HtR, HtRs⟩, ⟨Hp, Hps⟩, Hx, Hcr⟩ Hk
  ihave Hx' := (xbPts_insert m ρ (From_notMem k)).1 $$ Hx
  icases Hx' with ⟨Hb, Hx⟩
  unfold barPay
  icases Hp with ⟨%fd, Hslot⟩
  iapply (wp_send_slot m ρ K c k hk fd W) $$ [HO HtS HtR Hb Hslot]
  · isplitr; · iapply (inv_send m ρ K c k); iexact HR
    isplitr; · iapply (inv_recv m ρ K (peer c k) k); iexact HR
    isplitl [Hb]; · iexact Hb
    isplitl [Hslot]; · iexact Hslot
    isplitl [HO]; · iexact HO
    isplitl [HtS]; · iexact HtS
    isplitr; · iapply (reached_send m ρ K c k); iexact HR
    isplitl [HtR]; · iexact HtR
    iapply (reached_recv m ρ K (peer c k) k); iexact HR
  iintro ⟨Hc, HO⟩
  iapply Hk
  isplitl [HO]; · iexact HO
  isplitl [HtSs]; · iexact HtSs
  isplitl [HtRs]; · iexact HtRs
  isplitl [Hps]; · iexact Hps
  isplitl [Hx]; · iexact Hx
  isplitl [Hc]; · iexact Hc
  iexact Hcr

/-! ## The waits on the receive cells -/

/-- Before the receive wait of slot `n`: nothing owed, the credits and positions of the waits to come, the closed cells'
    counters, and the slots that have landed, with the device's own. -/
def RcvSt (c : Dev nD) (n : Nat) : sProp 𝕄 :=
  iprop((∃ W, owes (c : Thread nD τ) 0 W) ∗ (bigSep (Left n) fun k => cred (tallyAt (recvCell c k) () N))
    ∗ (bigSep (Left n) fun k => atPos ER (recvCell c k) 0 ∅ 0) ∗ (bigSep (Done n) fun k => semVal (recvCell c k) 0)
    ∗ rowPts c (Upto n) (rowC m ρ c))

theorem rcv_step_of (c : Dev nD) (k : Fin 8) (hk : k ≠ 7) {src dst : Memref sig .tc .vmem S128x128 .bf16} {h1} {h2} {sm : DmaSem sig} (hsm : sm = recvS k)
    (hd : dst.view.dmaCredit = N)
    {α : Type} {Q : α → sProp 𝕄} {kont : PUnit → Prog (TpuEff nD τ sig (Elt F) Λ₀ .tc) α} :
    iprop(records m ρ K ∗ RcvSt m ρ c k.val)
      ⊢ iprop((RcvSt m ρ c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sm src dst h1 h2) kont) Q) := by
  subst hsm
  unfold RcvSt
  rw [Left_step k hk, bigSep_ins (Left_notMem k), bigSep_ins (Left_notMem k), Done_step k hk, bigSep_ins (Done_notMem k), Upto_step k hk]
  iintro ⟨#HR, ⟨%W, HO⟩, ⟨Hc, Hcs⟩, ⟨Hat, Hats⟩, Hz, Hrow⟩ Hk
  iapply (Rounds.wp_wait_rest_token 𝒱₀ ER (sched m ρ) (c : Thread nD τ) none (κ := K (c, jR k))
      (wpE_waitDma2_eq 𝒱₀ (c : Thread nD τ) none Set.univ) (Set.mem_univ _) () (O := 0) (W := W) (R := 0) (m := 0) (T := ∅)
      ((Nat.zero_add dst.view.dmaCredit).trans (hd.trans (expect_recv m ρ c k hk).symm))) $$ [Hc HO Hat]
  · isplitr; · iapply (inv_recv m ρ K c k); iexact HR
    isplitl [Hc]; · rw [hd]; iexact Hc
    isplitl [HO]; · iexact HO
    isplitr; · rw [MayWait_zero]; iempintro
    iexact Hat
  iintro ⟨HO, Hat, -, Hpay⟩
  ihave Hs := (Entails.of_eq (rest_recv m ρ c k hk)) $$ Hpay
  unfold recvPay
  imod (Rounds.cell_close ER (sched m ρ) (Set.mem_univ (K (c, jR k))) (fun h => h) (R := 0 + 1) (duties_later m ρ (recvCell c k))) $$ [Hat] with Hz'
  · isplitr; · iapply (inv_recv m ρ K c k); iexact HR
    iexact Hat
  iapply Hk
  isplitl [HO]; · iexists _; iexact HO
  isplitl [Hcs]; · iexact Hcs
  isplitl [Hats]; · iexact Hats
  isplitl [Hz Hz']
  · isplitl [Hz'] <;> iassumption
  iapply (rowPts_insert (Upto_notMem k hk) (rowC m ρ c)).2
  isplitl [Hs] <;> iassumption

theorem rcv_step (c : Dev nD) (k : Fin 8) (hk : k ≠ 7) {sm : DmaSem sig} (hsm : sm = recvS k)
    {inb : ∀ a, (![0, 0] : Fin 2 → Nat) a + S128x128.size a ≤ S1024x128.size a} {inb' : ∀ a, (![0, 128 * k.val] : Fin 2 → Nat) a + S128x128.size a ≤ S128x1024.size a}
    {hs} {hs'} {h1} {h2}
    {α : Type} {Q : α → sProp 𝕄} {kont : PUnit → Prog (TpuEff nD τ sig (Elt F) Λ₀ .tc) α} :
    iprop(records m ρ K ∗ RcvSt m ρ c k.val)
      ⊢ iprop((RcvSt m ρ c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sm
              (xbM.slice (Rect.unit (s := S1024x128) ![0, 0] S128x128.size inb) hs)
              (rowM.slice (Rect.unit (s := S128x1024) ![0, 128 * k.val] S128x128.size inb') hs') h1 h2) kont) Q) :=
  rcv_step_of m ρ K c k hk hsm (N_slot k)

/-! ## The waits on the send cells -/

/-- Before the send wait of slot `n`: likewise, with the rows of the rounded block of `x` that are back. -/
def SwtSt (c : Dev nD) (n : Nat) : sProp 𝕄 :=
  iprop((∃ W, owes (c : Thread nD τ) 0 W) ∗ (bigSep (Left n) fun k => cred (tallyAt (sendCell c k) () N))
    ∗ (bigSep (Left n) fun k => atPos ER (sendCell c k) 0 ∅ 0) ∗ (bigSep (Done n) fun k => semVal (sendCell c k) 0)
    ∗ xbPts m ρ c (Upto n))

theorem N_rows {off : Fin 2 → Nat} {inb : ∀ a, off a + S128x128.size a ≤ S1024x128.size a} {hs} :
    (xbM.slice (Rect.unit (s := S1024x128) off S128x128.size inb) hs).view.dmaCredit = N := rfl

theorem swt_step_of (c : Dev nD) (k : Fin 8) (hk : k ≠ 7) {src dst : Memref sig .tc .vmem S128x128 .bf16} {h1} {h2} {sm : DmaSem sig} (hsm : sm = sendS k)
    (hd : dst.view.dmaCredit = N)
    {α : Type} {Q : α → sProp 𝕄} {kont : PUnit → Prog (TpuEff nD τ sig (Elt F) Λ₀ .tc) α} :
    iprop(records m ρ K ∗ SwtSt m ρ c k.val)
      ⊢ iprop((SwtSt m ρ c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sm src dst h1 h2) kont) Q) := by
  subst hsm
  unfold SwtSt
  rw [Left_step k hk, bigSep_ins (Left_notMem k), bigSep_ins (Left_notMem k), Done_step k hk, bigSep_ins (Done_notMem k), Upto_step k hk]
  iintro ⟨#HR, ⟨%W, HO⟩, ⟨Hc, Hcs⟩, ⟨Hat, Hats⟩, Hz, Hx⟩ Hk
  iapply (Rounds.wp_wait_rest_token 𝒱₀ ER (sched m ρ) (c : Thread nD τ) none (κ := K (c, jS k))
      (wpE_waitDma2_eq 𝒱₀ (c : Thread nD τ) none Set.univ) (Set.mem_univ _) () (O := 0) (W := W) (R := 0) (m := 0) (T := ∅)
      ((Nat.zero_add dst.view.dmaCredit).trans (hd.trans (expect_send m ρ c k hk).symm))) $$ [Hc HO Hat]
  · isplitr; · iapply (inv_send m ρ K c k); iexact HR
    isplitl [Hc]; · rw [hd]; iexact Hc
    isplitl [HO]; · iexact HO
    isplitr; · rw [MayWait_zero]; iempintro
    iexact Hat
  iintro ⟨HO, Hat, -, Hpay⟩
  ihave Hs := (Entails.of_eq (rest_send m ρ c k hk)) $$ Hpay
  unfold sendPay
  imod (Rounds.cell_close ER (sched m ρ) (Set.mem_univ (K (c, jS k))) (fun h => h) (R := 0 + 1) (duties_later m ρ (sendCell c k))) $$ [Hat] with Hz'
  · isplitr; · iapply (inv_send m ρ K c k); iexact HR
    iexact Hat
  iapply Hk
  isplitl [HO]; · iexists _; iexact HO
  isplitl [Hcs]; · iexact Hcs
  isplitl [Hats]; · iexact Hats
  isplitl [Hz Hz']
  · isplitl [Hz'] <;> iassumption
  iapply (xbPts_insert m ρ (Upto_notMem k hk)).2
  isplitl [Hs] <;> iassumption

theorem swt_step (c : Dev nD) (k : Fin 8) (hk : k ≠ 7) {sm : DmaSem sig} (hsm : sm = sendS k) {off : Fin 2 → Nat}
    {inb : ∀ a, off a + S128x128.size a ≤ S1024x128.size a} {inb' : ∀ a, (![0, 128 * k.val] : Fin 2 → Nat) a + S128x128.size a ≤ S128x1024.size a}
    {hs} {hs'} {h1} {h2}
    {α : Type} {Q : α → sProp 𝕄} {kont : PUnit → Prog (TpuEff nD τ sig (Elt F) Λ₀ .tc) α} :
    iprop(records m ρ K ∗ SwtSt m ρ c k.val)
      ⊢ iprop((SwtSt m ρ c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sm
              (rowM.slice (Rect.unit (s := S128x1024) ![0, 128 * k.val] S128x128.size inb') hs')
              (xbM.slice (Rect.unit (s := S1024x128) off S128x128.size inb) hs) h1 h2) kont) Q) :=
  swt_step_of m ρ K c k hk hsm N_rows

end Cert.KernelIdeal.Exchange

end
-- ==== Proof.Body.lean ====
/-
The kernel's body on one device: the proof data of its one grid point, and the body run through from what the launch hands
the device to what the device leaves.
-/
module

public import proofs.«01_k».proof.Proof.Steps
public import proofs.«01_k».proof.Proof.Gen.KernelIdeal.Points

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The columns `[q, q + n)` of the landing buffer; the rows `[q, q + n)` of the permuted `w`. -/
def rowA (c : Dev nD) : Vec F S128x384 .bf16 := rowM.view.readAt (Elt F) (Rect.unit (s := S128x1024) ![0, 0] S128x384.size inb_S128x1024_S128x384_0_0).toLoadRect (rowC m ρ c)
def rowB (c : Dev nD) : Vec F S128x384 .bf16 := rowM.view.readAt (Elt F) (Rect.unit (s := S128x1024) ![0, 384] S128x384.size inb_S128x1024_S128x384_0_384).toLoadRect (rowC m ρ c)
def rowD (c : Dev nD) : Vec F S128x256 .bf16 := rowM.view.readAt (Elt F) (Rect.unit (s := S128x1024) ![0, 768] S128x256.size inb_S128x1024_S128x256_0_768).toLoadRect (rowC m ρ c)
def wpA (c : Dev nD) : Vec F S384x1024 .bf16 := wpM.view.readAt (Elt F) (Rect.unit (s := S1024x1024) ![0, 0] S384x1024.size inb_S1024x1024_S384x1024_0_0).toLoadRect (wpC m ρ c)
def wpB (c : Dev nD) : Vec F S384x1024 .bf16 := wpM.view.readAt (Elt F) (Rect.unit (s := S1024x1024) ![384, 0] S384x1024.size inb_S1024x1024_S384x1024_384_0).toLoadRect (wpC m ρ c)
def wpD (c : Dev nD) : Vec F S256x1024 .bf16 := wpM.view.readAt (Elt F) (Rect.unit (s := S1024x1024) ![768, 0] S256x1024.size inb_S1024x1024_S256x1024_768_0).toLoadRect (wpC m ρ c)

/-- The product on device `c`, three groups of blocks summed in turn; then the kernel's result there. -/
def accAt (c : Dev nD) : FVec F S128x1024 .f32 :=
  k0_pay16 (k0_pay15 k0_pay14 (rowA m ρ c) (wpA m ρ c)) (rowB m ρ c) (wpB m ρ c) (rowD m ρ c) (wpD m ρ c)
def outAt (c : Dev nD) : (cc0_stg2_0 : Ref sig .tc).ty.Contents (Elt F) := k0_pay1 (accAt m ρ c)

/-- What device `c` starts from, at the names `K` of the cells: everyone's records, its positions at its cells, and the
    tokens of the duties it pays: the signal, the send and the landing of each foreign slot. -/
def ghost (K : Dev nD × Fin 17 → ℕ) (c : Dev nD) : sProp 𝕄 :=
  iprop(records m ρ K ∗ atPos ER (barCell c) 0 ∅ 0
    ∗ (bigSep Finset.univ fun k => atPos ER (sendCell c k) 0 ∅ 0) ∗ (bigSep Finset.univ fun k => atPos ER (recvCell c k) 0 ∅ 0)
    ∗ (bigSep (Left 0) fun k => dutyTok ER (barCell (peer c k)) 0 k) ∗ (bigSep (Left 0) fun k => dutyTok ER (sendCell c k) 0 0)
    ∗ (bigSep (Left 0) fun k => dutyTok ER (recvCell (peer c k) k) 0 0))

/-- With its credits: seven units on its barrier cell, a block's on the receive cell of each foreign slot. -/
def start (c : Dev nD) : sProp 𝕄 :=
  iprop((∃ K, ghost m ρ K c) ∗ cred (tallyAt (barCell c) () 7) ∗ (bigSep (Left 0) fun k => cred (tallyAt (recvCell c k) () N)) ∗ levAts L lv)

abbrev whole (c : Dev nD) (b : Ref sig .tc) (f : Buf (Elt F) ((c : Thread nD τ).loc b)) : sProp 𝕄 := ((c : Thread nD τ).loc b) ↦{fullShare} f

def Φ₀ (c : Dev nD) : sProp 𝕄 :=
  iprop(start m ρ c ∗ (∃ f, whole c cc0_scratch0 f) ∗ (∃ f, whole c cc0_scratch1 f) ∗ (∃ f, whole c cc0_scratch2 f))
/-- After the point: the three buffers and every cell's counter at zero. -/
def Φ₁ (c : Dev nD) : sProp 𝕄 :=
  iprop((∃ f, whole c cc0_scratch0 f) ∗ (∃ f, whole c cc0_scratch1 f) ∗ (∃ f, whole c cc0_scratch2 f)
    ∗ (bigSep Finset.univ fun k => semVal (sendCell c k) 0) ∗ (bigSep Finset.univ fun k => semVal (recvCell c k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => Obar c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

section Body

variable (K : Dev nD × Fin 17 → ℕ)

abbrev rX : Rect S1024x128 := Rect.unit (s := S1024x128) ![0, 0] S1024x128.size inb_S1024x128_S1024x128_0_0
abbrev rO : Rect S128x1024 := Rect.unit (s := S128x1024) ![0, 0] S128x1024.size inb_S128x1024_S128x1024_0_0

theorem hz : (![0, 0] : Fin 2 → Nat) = fun _ => 0 := funext fun a => by fin_cases a <;> rfl
theorem read_x (f : (cc0_stg0_0 : Ref sig .tc).ty.Contents (Elt F)) : xM.view.readAt (Elt F) rX.toLoadRect f = f :=
  Memref.readAt_unit_zero (Elt F) cc0_stg0_0 hz _ f
theorem write_xb (f w : (cc0_scratch0 : Ref sig .tc).ty.Contents (Elt F)) :
    (xbM.access rX : View sig .tc _ _ _).write (Elt F) f w Finset.univ = w :=
  Memref.write_access_unit_zero_univ (Elt F) cc0_scratch0 hz _ f w
theorem write_out (f w : (cc0_stg2_0 : Ref sig .tc).ty.Contents (Elt F)) :
    (oM.access rO : View sig .tc _ _ _).write (Elt F) f w Finset.univ = w :=
  Memref.write_access_unit_zero_univ (Elt F) cc0_stg2_0 hz _ f w

/-- The store of row block `k` of the permuted `w`. -/
theorem w_store (c : Dev nD) (k : Fin 8) {f : Buf (Elt F) ((c : Thread nD τ).loc cc0_scratch2)} (h : WpTo m ρ c k.val f)
    {off off' : Fin 2 → Nat} (hoff : off = ![128 * (peer c k).val, 0]) (hoff' : off' = ![128 * k.val, 0])
    {hinb : ∀ a, off a + S128x1024.size a ≤ S1024x1024.size a} {hinb' : ∀ a, off' a + S128x1024.size a ≤ S1024x1024.size a}
    {v : Vec F S128x1024 .bf16}
    (hv : v = truncf (F := F) (s := S128x1024) .bf16 (wM.view.readAt (Elt F) (Rect.unit (s := S1024x1024) off S128x1024.size hinb).toLoadRect (wstg m ρ c)) bitsLt_bf16_f32)
    {hx} {hm} {α : Type} {Q : α → sProp 𝕄} {kont : PUnit → Prog (TpuEff nD τ sig (Elt F) Λ₀ .tc) α} :
    (wpM.view.loc (c : Thread nD τ) ↦[Finset.univ]{fullShare} f)
      ⊢ iprop((∀ f', ⌜WpTo m ρ c (k.val + 1) f'⌝ -∗ whole c cc0_scratch2 f' -∗ wp frame (wpE (defs₀ (F := F)) 𝒱₀ (c : Thread nD τ) none) Set.univ (kont ⟨⟩) Q)
          -∗ wp frame (wpE (defs₀ (F := F)) 𝒱₀ (c : Thread nD τ) none) Set.univ
              (.op (.store wpM (Rect.unit (s := S1024x1024) off' S128x1024.size hinb') v Finset.univ hx hm) kont) Q) := by
  subst hv
  iintro H Hk
  iapply (wp_store 𝒱₀ (c : Thread nD τ) none Set.univ (m := wpM) (r := Rect.unit (s := S1024x1024) off' S128x1024.size hinb') (Mk := Finset.univ) (Finset.subset_univ _)) $$ H
  iintro H
  iapply Hk $$ %_ %(w_copy m ρ c k h hoff hoff') H

def bodyPre (c : Dev nD) : sProp 𝕄 :=
  iprop((ghost m ρ K c ∗ cred (tallyAt (barCell c) () 7) ∗ (bigSep (Left 0) fun k => cred (tallyAt (recvCell c k) () N)) ∗ levAts L lv
      ∗ (∃ f, whole c cc0_scratch0 f) ∗ (∃ f, whole c cc0_scratch1 f) ∗ (∃ f, whole c cc0_scratch2 f))
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

set_option maxHeartbeats 4000000 in
/-- The body, run from `bodyPre` one effect at a time in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) Kt := by
  simp only [cc0_body_eq_skeleton]; unfold cc0_body_skel
  unfold bodyPre ghost
  iintro ⟨⟨⟨⟨#HR, HatB, HatS, HatV, HtB, HtS, HtV⟩, HcB, HcV, #Hlev, ⟨%f0, Hxb⟩, ⟨%f1, Hrow⟩, ⟨%f2, Hwp⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = Obar c 0 from rfl]
  -- the signals
  ihave HatS := (Entails.of_eq (univ_ins fun k => atPos ER (sendCell c k) 0 ∅ 0)) $$ HatS
  ihave HatV := (Entails.of_eq (univ_ins fun k => atPos ER (recvCell c k) 0 ∅ 0)) $$ HatV
  icases HatS with ⟨HatS7, HatS⟩
  icases HatV with ⟨HatV7, HatV⟩
  ihave Hr := (Entails.of_eq (rowPts_univ c f1).symm) $$ Hrow
  rw [← From_zero]
  ihave Hst : SigSt c f1 W 0 $$ [HO HtB Hr]
  · unfold SigSt
    isplitl [HO]; · iexact HO
    isplitl [HtB]; · iexact HtB
    iexact Hr
  rw [k0_part1_eq_skeleton]; unfold k0_part1_skel
  simp only [semSignalWord, semWaitWord, Prog.lift, Prog.bind_op, Prog.bind_ret, Prog.pure_eq_ret, wp_deviceId]
  iapply (sig_step m ρ K c 0 (by decide) _ (sig_dev0 c) f1 W (by decide)) $$ [Hst]
  · isplitr; · iexact HR
    iexact Hst
  iintro Hst
  iapply (sig_step m ρ K c 1 (by decide) _ (sig_dev1 c) f1 W (by decide)) $$ [Hst]
  · isplitr; · iexact HR
    iexact Hst
  iintro Hst
  iapply (sig_step m ρ K c 2 (by decide) _ (sig_dev2 c) f1 W (by decide)) $$ [Hst]
  · isplitr; · iexact HR
    iexact Hst
  iintro Hst
  rw [k0_part2_eq_skeleton]; unfold k0_part2_skel
  simp only [semSignalWord, semWaitWord, Prog.lift, Prog.bind_op, Prog.bind_ret, Prog.pure_eq_ret, wp_deviceId]
  iapply (sig_step m ρ K c 3 (by decide) _ (sig_dev3 c) f1 W (by decide)) $$ [Hst]
  · isplitr; · iexact HR
    iexact Hst
  iintro Hst
  iapply (sig_step m ρ K c 4 (by decide) _ (sig_dev4 c) f1 W (by decide)) $$ [Hst]
  · isplitr; · iexact HR
    iexact Hst
  iintro Hst
  iapply (sig_step m ρ K c 5 (by decide) _ (sig_dev5 c) f1 W (by decide)) $$ [Hst]
  · isplitr; · iexact HR
    iexact Hst
  iintro Hst
  iapply (sig_step m ρ K c 6 (by decide) _ (sig_dev6 c) f1 W (by decide)) $$ [Hst]
  · isplitr; · iexact HR
    iexact Hst
  iintro Hst
  ihave Hst : SigSt c f1 W 7 $$ [Hst]
  · iexact Hst
  unfold SigSt
  icases Hst with ⟨HO, -, Hrow⟩
  rw [From_seven, Obar_seven, ← Upto_zero]
  -- the block of `x`, rounded
  iapply (wp_load 𝒱₀ (c : Thread nD τ) none Set.univ (m := xM) (Finset.subset_univ _)) $$ Hx; iintro Hx
  rw [read_x]
  iapply (wp_load 𝒱₀ (c : Thread nD τ) none Set.univ (m := xbM) (Finset.subset_univ _)) $$ Hxb; iintro Hxb
  iapply (wp_store 𝒱₀ (c : Thread nD τ) none Set.univ (m := xbM) (r := rX) (Mk := Finset.univ) (Finset.subset_univ _)) $$ Hxb; iintro Hxb
  rw [write_xb]
  -- the barrier: every peer's landing slot
  iapply (Rounds.wp_wait_rest_token 𝒱₀ ER (sched m ρ) (c : Thread nD τ) none (κ := K (c, 0))
      (wpE_semWait_eq 𝒱₀ (c : Thread nD τ) none Set.univ) (Set.mem_univ _) () (O := Osnd c 0) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  rw [← Left_zero]
  ihave Hxb' : xbPts m ρ c (From 0) $$ [Hxb]
  · rw [From_zero, xbPts_univ]; iexact Hxb
  -- the transfers
  ihave Hst : SndSt m ρ c (insert (SemLoc.reg barS, ()) W) 0 $$ [HO HtS HtV Hp Hxb']
  · unfold SndSt
    isplitl [HO]; · iexact HO
    isplitl [HtS]; · iexact HtS
    isplitl [HtV]; · iexact HtV
    isplitl [Hp]; · iexact Hp
    isplitl [Hxb']; · iexact Hxb'
    rw [Done_zero, bigSep_empty]; iempintro
  rw [k0_part3_eq_skeleton]; unfold k0_part3_skel
  simp only [semSignalWord, semWaitWord, Prog.lift, Prog.bind_op, Prog.bind_ret, Prog.pure_eq_ret, wp_deviceId]
  iapply (snd_step m ρ K c 0 (by decide) _ (snd_dev0 c) _ (x_off0 c) (insert (SemLoc.reg barS, ()) W) rfl rfl rfl) $$ [Hst]
  · isplitr; · iexact HR
    iexact Hst
  iintro Hst
  iapply (snd_step m ρ K c 1 (by decide) _ (snd_dev1 c) _ (x_off1 c) (insert (SemLoc.reg barS, ()) W) rfl rfl rfl) $$ [Hst]
  · isplitr; · iexact HR
    iexact Hst
  iintro Hst
  rw [k0_part4_eq_skeleton]; unfold k0_part4_skel
  simp only [semSignalWord, semWaitWord, Prog.lift, Prog.bind_op, Prog.bind_ret, Prog.pure_eq_ret, wp_deviceId]
  iapply (snd_step m ρ K c 2 (by decide) _ (snd_dev2 c) _ (x_off2 c) (insert (SemLoc.reg barS, ()) W) rfl rfl rfl) $$ [Hst]
  · isplitr; · iexact HR
    iexact Hst
  iintro Hst
  iapply (snd_step m ρ K c 3 (by decide) _ (snd_dev3 c) _ (x_off3 c) (insert (SemLoc.reg barS, ()) W) rfl rfl rfl) $$ [Hst]
  · isplitr; · iexact HR
    iexact Hst
  iintro Hst
  rw [k0_part5_eq_skeleton]; unfold k0_part5_skel
  simp only [semSignalWord, semWaitWord, Prog.lift, Prog.bind_op, Prog.bind_ret, Prog.pure_eq_ret, wp_deviceId]
  iapply (snd_step m ρ K c 4 (by decide) _ (snd_dev4 c) _ (x_off4 c) (insert (SemLoc.reg barS, ()) W) rfl rfl rfl) $$ [Hst]
  · isplitr; · iexact HR
    iexact Hst
  iintro Hst
  iapply (snd_step m ρ K c 5 (by decide) _ (snd_dev5 c) _ (x_off5 c) (insert (SemLoc.reg barS, ()) W) rfl rfl rfl) $$ [Hst]
  · isplitr; · iexact HR
    iexact Hst
  iintro Hst
  iapply (snd_step m ρ K c 6 (by decide) _ (snd_dev6 c) _ (x_off6 c) (insert (SemLoc.reg barS, ()) W) rfl rfl rfl) $$ [Hst]
  · isplitr; · iexact HR
    iexact Hst
  iintro Hst
  ihave Hst : SndSt m ρ c (insert (SemLoc.reg barS, ()) W) 7 $$ [Hst]
  · iexact Hst
  unfold SndSt
  icases Hst with ⟨HO, -, -, -, Hxb, HcS⟩
  rw [From_seven, Osnd_seven, Done_seven, ← Left_zero]
  -- the device's own block
  unfold xbPts
  iapply (wp_load 𝒱₀ (c : Thread nD τ) none Set.univ (m := xbM) (own_rows c (x_off7 c))) $$ Hxb; iintro Hxb
  unfold rowPts
  iapply (wp_load 𝒱₀ (c : Thread nD τ) none Set.univ (m := rowM) (row_cols (Upto 0) (by decide))) $$ Hrow; iintro Hrow
  rw [k0_part6_eq_skeleton]; unfold k0_part6_skel
  simp only [semSignalWord, semWaitWord, Prog.lift, Prog.bind_op, Prog.bind_ret, Prog.pure_eq_ret, wp_deviceId]
  iapply (wp_store 𝒱₀ (c : Thread nD τ) none Set.univ (m := rowM) (r := Rect.unit (s := S128x1024) ![0, 896] S128x128.size inb_S128x1024_S128x128_0_896) (Mk := Finset.univ) own_store) $$ Hrow; iintro Hrow
  ihave Hrow := (Entails.of_eq (pointsTo_congr (own_slot m ρ c f1 (x_off7 c)))) $$ Hrow
  -- the row blocks of `w`
  have hwp := WpTo_none m ρ c f2
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  iapply (w_store m ρ c 0 hwp (w_off0 c) rfl (pay4_eq _)) $$ Hwp; iintro %f3 %h3 Hwp
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  iapply (w_store m ρ c 1 h3 (w_off1 c) rfl (pay5_eq _)) $$ Hwp; iintro %f4 %h4 Hwp
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  rw [k0_part7_eq_skeleton]; unfold k0_part7_skel
  simp only [semSignalWord, semWaitWord, Prog.lift, Prog.bind_op, Prog.bind_ret, Prog.pure_eq_ret, wp_deviceId]
  iapply (w_store m ρ c 2 h4 (w_off2 c) rfl (pay76_eq _)) $$ Hwp; iintro %f5 %h5 Hwp
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  iapply (w_store m ρ c 3 h5 (w_off3 c) rfl (pay8_eq _)) $$ Hwp; iintro %f6 %h6 Hwp
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  iapply (w_store m ρ c 4 h6 (w_off4 c) rfl (pay9_eq _)) $$ Hwp; iintro %f7 %h7 Hwp
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  rw [k0_part8_eq_skeleton]; unfold k0_part8_skel
  simp only [semSignalWord, semWaitWord, Prog.lift, Prog.bind_op, Prog.bind_ret, Prog.pure_eq_ret, wp_deviceId]
  iapply (w_store m ρ c 5 h7 (w_off5 c) rfl (pay1110_eq _)) $$ Hwp; iintro %f8 %h8 Hwp
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  iapply (w_store m ρ c 6 h8 (w_off6 c) rfl (pay12_eq _)) $$ Hwp; iintro %f9 %h9 Hwp
  iapply (wp_load 𝒱₀ (c : Thread nD τ) none Set.univ (m := wM) (Finset.subset_univ _)) $$ Hw; iintro Hw
  iapply (wp_load 𝒱₀ (c : Thread nD τ) none Set.univ (m := wpM) (Finset.subset_univ _)) $$ Hwp; iintro Hwp
  iapply (w_store m ρ c 7 h9 (w_off7 c) rfl (pay13_eq _)) $$ Hwp; iintro %f10 %h10 Hwp
  rw [WpTo_all m ρ c h10]
  -- the receive waits and the three products
  ihave Hst : RcvSt m ρ c 0 $$ [HO HcV HatV Hrow]
  · unfold RcvSt
    isplitl [HO]; · iexists _; iexact HO
    isplitl [HcV]; · iexact HcV
    isplitl [HatV]; · iexact HatV
    isplitr; · rw [Done_zero, bigSep_empty]; iempintro
    unfold rowPts; iexact Hrow
  iapply (rcv_step m ρ K c 0 (by decide) rfl) $$ [Hst]
  · isplitr; · iexact HR
    iexact Hst
  iintro Hst
  rw [k0_part9_eq_skeleton]; unfold k0_part9_skel
  simp only [semSignalWord, semWaitWord, Prog.lift, Prog.bind_op, Prog.bind_ret, Prog.pure_eq_ret, wp_deviceId]
  iapply (rcv_step m ρ K c 1 (by decide) rfl) $$ [Hst]
  · isplitr; · iexact HR
    iexact Hst
  iintro Hst
  iapply (rcv_step m ρ K c 2 (by decide) rfl) $$ [Hst]
  · isplitr; · iexact HR
    iexact Hst
  iintro Hst
  ihave Hst : RcvSt m ρ c 3 $$ [Hst]
  · iexact Hst
  unfold RcvSt rowPts
  icases Hst with ⟨HO, Hcs, Hats, Hzs, Hrow⟩
  iapply (wp_load 𝒱₀ (c : Thread nD τ) none Set.univ (m := rowM) (row_cols (Upto 3) (by decide))) $$ Hrow; iintro Hrow
  iapply (wp_load 𝒱₀ (c : Thread nD τ) none Set.univ (m := wpM) (Finset.subset_univ _)) $$ Hwp; iintro Hwp
  ihave Hst : RcvSt m ρ c 3 $$ [HO Hcs Hats Hzs Hrow]
  · unfold RcvSt rowPts
    isplitl [HO]; · iexact HO
    isplitl [Hcs]; · iexact Hcs
    isplitl [Hats]; · iexact Hats
    isplitl [Hzs]; · iexact Hzs
    iexact Hrow
  iapply (rcv_step m ρ K c 3 (by decide) rfl) $$ [Hst]
  · isplitr; · iexact HR
    iexact Hst
  iintro Hst
  rw [k0_part10_eq_skeleton]; unfold k0_part10_skel
  simp only [semSignalWord, semWaitWord, Prog.lift, Prog.bind_op, Prog.bind_ret, Prog.pure_eq_ret, wp_deviceId]
  iapply (rcv_step m ρ K c 4 (by decide) rfl) $$ [Hst]
  · isplitr; · iexact HR
    iexact Hst
  iintro Hst
  iapply (rcv_step m ρ K c 5 (by decide) rfl) $$ [Hst]
  · isplitr; · iexact HR
    iexact Hst
  iintro Hst
  ihave Hst : RcvSt m ρ c 6 $$ [Hst]
  · iexact Hst
  unfold RcvSt rowPts
  icases Hst with ⟨HO, Hcs, Hats, Hzs, Hrow⟩
  iapply (wp_load 𝒱₀ (c : Thread nD τ) none Set.univ (m := rowM) (row_cols (Upto 6) (by decide))) $$ Hrow; iintro Hrow
  iapply (wp_load 𝒱₀ (c : Thread nD τ) none Set.univ (m := wpM) (Finset.subset_univ _)) $$ Hwp; iintro Hwp
  ihave Hst : RcvSt m ρ c 6 $$ [HO Hcs Hats Hzs Hrow]
  · unfold RcvSt rowPts
    isplitl [HO]; · iexact HO
    isplitl [Hcs]; · iexact Hcs
    isplitl [Hats]; · iexact Hats
    isplitl [Hzs]; · iexact Hzs
    iexact Hrow
  iapply (rcv_step m ρ K c 6 (by decide) rfl) $$ [Hst]
  · isplitr; · iexact HR
    iexact Hst
  iintro Hst
  ihave Hst : RcvSt m ρ c 7 $$ [Hst]
  · iexact Hst
  unfold RcvSt rowPts
  icases Hst with ⟨HO, Hcs, Hats, Hzs, Hrow⟩
  iapply (wp_load 𝒱₀ (c : Thread nD τ) none Set.univ (m := rowM) (row_cols (Upto 7) (by decide))) $$ Hrow; iintro Hrow
  iapply (wp_load 𝒱₀ (c : Thread nD τ) none Set.univ (m := wpM) (Finset.subset_univ _)) $$ Hwp; iintro Hwp
  -- the send waits
  ihave Hst : SwtSt m ρ c 0 $$ [HO HcS HatS Hxb]
  · unfold SwtSt
    isplitl [HO]; · iexact HO
    isplitl [HcS]; · iexact HcS
    isplitl [HatS]; · iexact HatS
    isplitr; · rw [Done_zero, bigSep_empty]; iempintro
    unfold xbPts; rw [Upto_zero]; iexact Hxb
  rw [k0_part11_eq_skeleton]; unfold k0_part11_skel
  simp only [semSignalWord, semWaitWord, Prog.lift, Prog.bind_op, Prog.bind_ret, Prog.pure_eq_ret, wp_deviceId]
  iapply (swt_step m ρ K c 0 (by decide) rfl) $$ [Hst]
  · isplitr; · iexact HR
    iexact Hst
  iintro Hst
  iapply (swt_step m ρ K c 1 (by decide) rfl) $$ [Hst]
  · isplitr; · iexact HR
    iexact Hst
  iintro Hst
  iapply (swt_step m ρ K c 2 (by decide) rfl) $$ [Hst]
  · isplitr; · iexact HR
    iexact Hst
  iintro Hst
  iapply (swt_step m ρ K c 3 (by decide) rfl) $$ [Hst]
  · isplitr; · iexact HR
    iexact Hst
  iintro Hst
  iapply (swt_step m ρ K c 4 (by decide) rfl) $$ [Hst]
  · isplitr; · iexact HR
    iexact Hst
  iintro Hst
  iapply (swt_step m ρ K c 5 (by decide) rfl) $$ [Hst]
  · isplitr; · iexact HR
    iexact Hst
  iintro Hst
  iapply (swt_step m ρ K c 6 (by decide) rfl) $$ [Hst]
  · isplitr; · iexact HR
    iexact Hst
  iintro Hst
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]
  ihave Hst : SwtSt m ρ c 7 $$ [Hst]
  · iexact Hst
  unfold SwtSt
  icases Hst with ⟨⟨%W', HO⟩, -, -, HzsS, Hxb⟩
  ihave Hxb := (Entails.of_eq ((congrArg (fun T => xbPts m ρ c T) Upto_seven).trans (xbPts_univ m ρ c))) $$ Hxb
  ihave Hrow := (Entails.of_eq ((congrArg (fun T => rowPts c T (rowC m ρ c)) Upto_seven).trans (rowPts_univ c (rowC m ρ c)))) $$ [Hrow]
  · unfold rowPts; iexact Hrow
  -- the cells no transfer uses close too, and the barrier cell
  imod (Rounds.cell_close ER (sched m ρ) (Set.mem_univ (K (c, jS 7))) (fun h => h) (R := 0) (duties_send_none m ρ c)) $$ [HatS7] with HzS7
  · isplitr; · iapply (inv_send m ρ K c 7); iexact HR
    iexact HatS7
  imod (Rounds.cell_close ER (sched m ρ) (Set.mem_univ (K (c, jR 7))) (fun h => h) (R := 0) (duties_recv_none m ρ c)) $$ [HatV7] with HzV7
  · isplitr; · iapply (inv_recv m ρ K c 7); iexact HR
    iexact HatV7
  imod (Rounds.cell_close ER (sched m ρ) (Set.mem_univ (K (c, 0))) (fun h => h) (R := 0 + 1) (duties_later m ρ (barCell c))) $$ [HatB] with HzB
  · isplitr; · iapply (inv_bar m ρ K c); iexact HR
    iexact HatB
  imodintro
  iapply Hk
  unfold bodyPost Φ₁ Dat.owesAt Pipeline.owesWithin
  rw [show (dats m ρ 0 c).owed t0_0.succ = 0 from rfl, univ_ins, univ_ins]
  isplitl [Hxb Hrow Hwp HzsS HzS7 Hzs HzV7 HzB]
  · isplitl [Hxb]; · iexists _; iexact Hxb
    isplitl [Hrow]; · iexists _; iexact Hrow
    isplitl [Hwp]; · iexists _; iexact Hwp
    isplitl [HzsS HzS7]
    · isplitl [HzS7]; · iexact HzS7
      rw [Left_zero, ← Done_seven]; iexact HzsS
    isplitl [Hzs HzV7]
    · isplitl [HzV7]; · iexact HzV7
      rw [Left_zero, ← Done_seven]; iexact Hzs
    iexact HzB
  isplitl [HO]
  · iexists W'
    isplitr
    · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

end Body

theorem bigSep_W (Φ : Fin cfg0.W → sProp 𝕄) : bigSep Finset.univ Φ = iprop(Φ (0 : Fin 3) ∗ Φ (1 : Fin 3) ∗ Φ (2 : Fin 3)) := bigSep_W0 Φ

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The pipeline's obligation on the body, on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) (fun _ => bodyPost m ρ c)
  unfold bodyPre' Φ₀ start
  iintro ⟨⟨⟨⟨%K, Hg⟩, HcB, HcV, Hlev⟩, H0, H1, H2⟩, Ho, Hx, Hw, Hout⟩
  iapply (sound_body m ρ K c fun _ => bodyPost m ρ c)
  isplitl
  · unfold bodyPre
    isplitl [Hg HcB HcV Hlev H0 H1 H2]
    · isplitl [Hg]; · iexact Hg
      isplitl [HcB]; · iexact HcB
      isplitl [HcV]; · iexact HcV
      isplitl [Hlev]; · iexact Hlev
      isplitl [H0]; · iexact H0
      isplitl [H1] <;> iassumption
    isplitl [Ho]; · iexact Ho
    isplitl [Hx]; · iexact Hx
    isplitl [Hw] <;> iassumption
  iintro H; iexact H

end Cert.KernelIdeal.Exchange

end
-- ==== Proof.Launch.lean ====
/-
The launch of the kernel on the eight devices: the cells and the duty tokens minted and dealt around the pairings, the
credits, and the run of @main: it ends, each device's result array holds the flushed block, both arguments are unchanged
and every semaphore is back at zero.
-/
module

public import proofs.«01_k».proof.Proof.Body
public import Idealize.ShloMosaic.Lib.Quiescent
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, minted -/

theorem ownSemFacts : Pipeline.OwnSemFacts cfg0.spec osem := by decide

theorem share_eq (c : Dev nD) (w : Fin cfg0.W) : (dats m ρ 0 c).share w = fullShare := by unfold Dat.share; split <;> rfl

theorem csem_injective : ∀ j j' : Fin 17, csem j = csem j' → j = j' := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  rw [csem_injective k k' (congrArg Prod.snd h)]
def allCells : Finset (GSem nD τ sig) := Finset.univ.map ⟨kcell, kcell_injective⟩

/-- A device's own cells' duty tokens as minted: its barrier's, one per slot; one of each send and of each receive cell. -/
abbrev tokSem (j : Fin 3 × Fin 8) : SemLoc sig × Fin 8 := match j.1 with
  | 0 => (.reg barS, j.2) | 1 => (.dma (sendS j.2), 0) | 2 => (.dma (recvS j.2), 0)
theorem tokSem_injective : ∀ j j' : Fin 3 × Fin 8, tokSem j = tokSem j' → j = j' := by decide +kernel
abbrev tokOf (cj : Dev nD × (Fin 3 × Fin 8)) : GSem nD τ sig × ℕ × Fin 8 := (((cj.1 : Thread nD τ), (tokSem cj.2).1), 0, (tokSem cj.2).2)
theorem tokOf_injective : Function.Injective (tokOf : Dev nD × (Fin 3 × Fin 8) → GSem nD τ sig × ℕ × Fin 8) := by
  rintro ⟨c, j⟩ ⟨c', j'⟩ h
  have h1 : c = c' := by
    have := congrArg (fun x : GSem nD τ sig × ℕ × Fin 8 => x.1.1.1) h
    exact this
  subst h1
  have h2 : tokSem j = tokSem j' := Prod.ext (congrArg (fun x : GSem nD τ sig × ℕ × Fin 8 => x.1.2) h) (congrArg (fun x : GSem nD τ sig × ℕ × Fin 8 => x.2.2) h)
  rw [tokSem_injective j j' h2]
def allToks : Finset (GSem nD τ sig × ℕ × Fin 8) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 8 => dutyTok ER (barCell c) 0 k) ∗ (bigSep Finset.univ fun k : Fin 8 => dutyTok ER (sendCell c k) 0 0)
    ∗ (bigSep Finset.univ fun k : Fin 8 => dutyTok ER (recvCell c k) 0 0))

/-- What the launch element deals device `c`. -/
def G (c : Dev nD) : sProp 𝕄 :=
  iprop((bigSep Finset.univ fun k : Fin 17 => roundState ER (sched m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## A device's cells: the barrier's, the send ones, the receive ones -/

def iS (k : Fin 8) : Fin 16 := ⟨k.val, by omega⟩
def iR (k : Fin 8) : Fin 16 := ⟨8 + k.val, by omega⟩
theorem iS_injective : Function.Injective iS := fun a b h => Fin.ext (show (iS a).val = (iS b).val by rw [h])
theorem iR_injective : Function.Injective iR := fun a b h => by
  have : 8 + a.val = 8 + b.val := congrArg Fin.val h
  exact Fin.ext (by omega)

theorem bigSep_fin16 (Φ : Fin 16 → sProp 𝕄) :
    bigSep Finset.univ Φ = iprop((bigSep Finset.univ fun k => Φ (iS k)) ∗ (bigSep Finset.univ fun k => Φ (iR k))) := by
  rw [show (Finset.univ : Finset (Fin 16)) = (Finset.univ.map ⟨iS, iS_injective⟩) ∪ (Finset.univ.map ⟨iR, iR_injective⟩) by decide]
  exact (BI.bigSep_union (by decide)).trans (by rw [BI.bigSep_map, BI.bigSep_map]; rfl)

theorem bigSep_fin17 (Φ : Fin 17 → sProp 𝕄) :
    bigSep Finset.univ Φ = iprop(Φ 0 ∗ bigSep Finset.univ fun k : Fin 16 => Φ k.succ) := by
  rw [show (Finset.univ : Finset (Fin 17)) = insert 0 (Finset.univ.map ⟨Fin.succ, Fin.succ_injective _⟩) by decide]
  exact (BI.bigSep_insert (by decide)).trans (by rw [BI.bigSep_map]; rfl)

/-- Every cell of a device, by what it is for. -/
theorem bigSep_cells (c : Dev nD) (Φ : GSem nD τ sig → sProp 𝕄) :
    (bigSep Finset.univ fun j : Fin 17 => Φ (kcell (c, j)))
      = iprop(Φ (barCell c) ∗ (bigSep Finset.univ fun k => Φ (sendCell c k)) ∗ (bigSep Finset.univ fun k => Φ (recvCell c k))) := by
  rw [bigSep_fin17, bigSep_fin16]
  have hS : ∀ k : Fin 8, kcell (c, (iS k).succ) = sendCell c k := fun k => by
    rw [← kcell_send]; refine congrArg (fun j => kcell (c, j)) (Fin.ext ?_)
    show k.val + 1 = 1 + k.val; omega
  have hR : ∀ k : Fin 8, kcell (c, (iR k).succ) = recvCell c k := fun k => by
    rw [← kcell_recv]; refine congrArg (fun j => kcell (c, j)) (Fin.ext ?_)
    show 8 + k.val + 1 = 9 + k.val; omega
  simp only [hS, hR]
  rfl

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ (bigSep Finset.univ fun k => semVal (recvCell c k) 0)) := by
  unfold Pipeline.ownSems0
  rw [bigSep_fin16]
  have hS : ∀ k : Fin 8, ((c.tc : Thread nD τ), osem (iS k)) = sendCell c k := fun k => congrArg (Prod.mk _) (by revert k; decide)
  have hR : ∀ k : Fin 8, ((c.tc : Thread nD τ), osem (iR k)) = recvCell c k := fun k => congrArg (Prod.mk _) (by revert k; decide)
  simp only [hS, hR]
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, bigSep_cells c fun g => semVal g 0]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- The tokens of the duties device `c` pays. -/
def payToks (c : Dev nD) : sProp 𝕄 :=
  iprop((bigSep Finset.univ fun k : Fin 8 => dutyTok ER (barCell (peer c k)) 0 k) ∗ (bigSep Finset.univ fun k : Fin 8 => dutyTok ER (sendCell c k) 0 0)
    ∗ (bigSep Finset.univ fun k : Fin 8 => dutyTok ER (recvCell (peer c k) k) 0 0))
/-- Its positions, with those. -/
def linear (c : Dev nD) : sProp 𝕄 :=
  iprop((bigSep Finset.univ fun k : Fin 17 => atPos ER (kcell (c, k)) 0 ∅ 0) ∗ payToks c)

theorem foreign (Φ : Fin 8 → sProp 𝕄) : bigSep Finset.univ Φ ⊢ bigSep (Left 0) Φ := by
  rw [univ_ins]; iintro ⟨-, H⟩; iexact H

theorem ghost_intro (K : Dev nD × Fin 17 → ℕ) (c : Dev nD) : iprop(records m ρ K ∗ linear c) ⊢ G' m ρ c := by
  unfold linear payToks G' ghost
  rw [bigSep_cells c fun g => atPos ER g 0 ∅ 0]
  iintro ⟨HR, ⟨HaB, HaS, HaV⟩, HtB, HtS, HtV⟩
  iexists K
  isplitl [HR]; · iexact HR
  isplitl [HaB]; · iexact HaB
  isplitl [HaS]; · iexact HaS
  isplitl [HaV]; · iexact HaV
  isplitl [HtB]; · iapply (foreign fun k => dutyTok ER (barCell (peer c k)) 0 k); iexact HtB
  isplitl [HtS]; · iapply (foreign fun k => dutyTok ER (sendCell c k) 0 0); iexact HtS
  iapply (foreign fun k => dutyTok ER (recvCell (peer c k) k) 0 0); iexact HtV

/-- A family over devices and slots, read at each slot's pairing. -/
theorem around (Φ : Dev nD → Fin 8 → sProp 𝕄) :
    (bigSep Finset.univ fun c : Dev nD => bigSep Finset.univ fun k : Fin 8 => Φ c k)
      = bigSep Finset.univ fun c : Dev nD => bigSep Finset.univ fun k : Fin 8 => Φ (peer c k) k := by
  rw [BI.bigSep_univ_comm, BI.bigSep_univ_comm fun (c : Dev nD) (k : Fin 8) => Φ (peer c k) k]
  exact bigSep_congr fun k _ => BI.bigSep_univ_equiv (pairing k) (fun c => Φ c k)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun c k => (dutyTok ER (barCell c) 0 k : sProp 𝕄)), around (fun c k => (dutyTok ER (recvCell c k) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (sched m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 17 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : barCell a = barCell b ↔ a = b :=
  ⟨fun h => Fin.ext (congrArg (fun g : GSem nD τ sig => g.1.1.val) h), fun h => h ▸ rfl⟩
theorem recvS_injective : ∀ j k : Fin 8, (SemLoc.dma (recvS j) : SemLoc sig) = .dma (recvS k) → j = k := by decide
theorem recv_eq_iff {a b : Dev nD} {j k : Fin 8} : recvCell a j = recvCell b k ↔ a = b ∧ j = k :=
  ⟨fun h => ⟨Fin.ext (congrArg (fun g : GSem nD τ sig => g.1.1.val) h), recvS_injective j k (congrArg Prod.snd h)⟩,
    fun h => by rw [h.1, h.2]⟩
theorem bar_ne_recv {a b : Dev nD} {k : Fin 8} : barCell a ≠ recvCell b k := fun h => by
  have := congrArg Prod.snd h; cases this

/-- Every device is signalled by the seven others; it receives one block in each foreign slot. -/
theorem count_bar : ∀ c : Dev nD, (∑ d : Dev nD, ∑ k ∈ Left 0, if c = peer d k then 1 else 0) = 7 := by decide +kernel
theorem count_recv : ∀ c : Dev nD, ∀ k ∈ Left 0, (∑ d : Dev nD, ∑ j ∈ Left 0, if c = peer d j ∧ k = j then 1 else 0) = 1 := by decide +kernel

/-- What device `d` owes a barrier cell and a receive cell at launch. -/
theorem owed_bar (d c : Dev nD) : Obar d 0 (barCell c) () = ∑ k ∈ Left 0, if c = peer d k then 1 else 0 := by
  unfold Obar Osnd
  rw [Pi.add_apply, Finsupp.add_apply, sum_tally_apply, sum_tally_apply, Finset.sum_eq_zero fun k _ => if_neg bar_ne_recv, Nat.zero_add]
  exact Finset.sum_congr rfl fun k _ => if_congr bar_eq_iff rfl rfl
theorem owed_recv (d c : Dev nD) (k : Fin 8) : Obar d 0 (recvCell c k) () = N * ∑ j ∈ Left 0, if c = peer d j ∧ k = j then 1 else 0 := by
  unfold Obar Osnd
  rw [Pi.add_apply, Finsupp.add_apply, sum_tally_apply, sum_tally_apply, Finset.sum_eq_zero (s := Left 0) (f := fun j => if recvCell c k = barCell (peer d j) then 1 else 0)
    (fun j _ => if_neg fun h => bar_ne_recv h.symm), Nat.add_zero, Finset.mul_sum]
  exact Finset.sum_congr rfl fun j _ => by
    rw [mul_ite, Nat.mul_one, Nat.mul_zero]
    exact if_congr recv_eq_iff rfl rfl

theorem launch_bar (c : Dev nD) :
    tallyOn (barCell c) (launchCredit (Pipeline.owing fun d => Obar d 0) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_recv (c : Dev nD) (k : Fin 8) (hk : k ∈ Left 0) :
    tallyOn (recvCell c k) (launchCredit (Pipeline.owing fun d => Obar d 0) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.mul_sum, count_recv c k hk, Nat.mul_one]

theorem recv_sub : (Left 0).map ⟨fun k => (SemLoc.dma (recvS k) : SemLoc sig), fun j k => recvS_injective j k⟩ ⊆ Finset.univ.erase (SemLoc.reg barS) := by decide

theorem creds (c : Dev nD) :
    (Pipeline.launchCred (fun d => Obar d 0) c : sProp 𝕄) ⊢ iprop(cred (tallyAt (barCell c) () 7) ∗ bigSep (Left 0) fun k => cred (tallyAt (recvCell c k) () N)) := by
  unfold Pipeline.launchCred
  rw [bigSep_univ_at _ (SemLoc.reg barS), launch_bar]
  refine sep_mono_right ((BI.bigSep_subset recv_sub).trans ?_)
  rw [BI.bigSep_map]
  exact bigSep_mono fun k hk => Entails.of_eq (congrArg cred (launch_recv c k hk))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => Obar d 0) c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨H0, H1, H2, HzS, HzV, HzB⟩
  isplitl [HzB]; · iexact HzB
  isplitl [HzS HzV]
  · isplitl [HzS] <;> iassumption
  isplitl [H0]; · iexact H0
  isplitl [H1]; · iexact H1
  iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with zero counters: every weakly fair execution of @main ends,
    with each window's array at its final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := fun d => Obar d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Both argument arrays hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- Each device's result array holds what its point left in the staging buffer. -/
theorem finalA_o (c : Dev nD) :
    (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

theorem result_eq (c : Dev nD) : finalA m ρ c (2 : Fin 3) = outAt m ρ c :=
  (Memref.read_access_unit_zero (Elt F) main_v1 (funext fun a => by fin_cases a <;> decide) (fun a => by fin_cases a <;> decide) _).symm.trans (finalA_o m ρ c)

/-- The staged blocks are the whole argument arrays. -/
theorem xstg_eq (c : Dev nD) : xstg m ρ c = m ((c : Thread nD τ).loc main_arg0) :=
  Memref.read_access_unit_zero (Elt F) main_arg0 (funext fun a => by fin_cases a <;> decide) (fun a => by fin_cases a <;> decide) _
theorem wstg_eq (c : Dev nD) : wstg m ρ c = m ((c : Thread nD τ).loc main_arg1) :=
  Memref.read_access_unit_zero (Elt F) main_arg1 (funext fun a => by fin_cases a <;> decide) (fun a => by fin_cases a <;> decide) _

/-- The run, read at the program's buffers. -/
theorem run : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (result_eq m ρ c), (h.1 c (0 : Fin 3)).trans (finalA_x m ρ c),
    (h.1 c (1 : Fin 3)).trans (finalA_w m ρ c)⟩, h.2⟩) (run_main m ρ)

end Cert.KernelIdeal.Exchange

end
-- ==== Proof.Product.lean ====
/-
What a device's product is over the extended reals: the sum of three groups of blocks in the order the device keeps them is
row by column of the whole arrays.
-/
module

public import proofs.«01_k».proof.Proof.Launch
public import Idealize.ShloMosaic.Lib.MatmulPlain
public import Idealize.ShloMosaic.Lib.StackMember
public import Idealize.ShloMosaic.Lib.IdealHost
public import Idealize.ShloMosaic.Lib.Layout

@[expose] public section

noncomputable section

namespace Cert.KernelIdeal.Exchange

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ) (ρ : Dev nD → PrngReg)

/-! ## Sums over the 1024 inner positions -/

/-- A sum over 1024 positions is the sum over the first 384, the next 384 and the last 256. -/
theorem sum_groups (f : Fin 1024 → EReal) :
    (∑ k : Fin 384, f ⟨k.val, by omega⟩) + (∑ k : Fin 384, f ⟨384 + k.val, by omega⟩) + (∑ k : Fin 256, f ⟨768 + k.val, by omega⟩)
      = ∑ k, f k := by
  have h := Fin.sum_univ_add (a := 384 + 384) (b := 256) (f : Fin (384 + 384 + 256) → EReal)
  have h' := Fin.sum_univ_add (a := 384) (b := 384) (fun k => (f : Fin (384 + 384 + 256) → EReal) (Fin.castAdd 256 k))
  rw [h'] at h
  exact h.symm

/-- A sum over 1024 positions is the sum over eight blocks of 128. -/
theorem sum_blocks (f : Fin 1024 → EReal) :
    ∑ k, f k = ∑ s : Fin 8, ∑ q : Fin 128, f ⟨128 * s.val + q.val, by omega⟩ := by
  rw [← Fintype.sum_prod_type' (f := fun (s : Fin 8) (q : Fin 128) => f ⟨128 * s.val + q.val, by omega⟩)]
  refine (Equiv.sum_comp (finProdFinEquiv : Fin 8 × Fin 128 ≃ Fin (8 * 128)) (f : Fin (8 * 128) → EReal)).symm.trans ?_
  refine Finset.sum_congr rfl fun p _ => congrArg f (Fin.ext ?_)
  show p.2.val + 128 * p.1.val = 128 * p.1.val + p.2.val
  omega

/-! ## The blocks that are multiplied, element by element -/

/-- Columns `[q, q + n)` of the landing buffer, element by element. -/
theorem row_read (c : Dev nD) (q n : Nat) (inb : ∀ a, (![0, q] : Fin 2 → Nat) a + (![128, n] : Fin 2 → Nat) a ≤ S128x1024.size a)
    (hq : q + n ≤ 1024) (r : Fin 128) (k : Fin n) :
    rowM.view.readAt (Elt Ideal) (Rect.unit (s := S128x1024) ![0, q] (![128, n]) inb).toLoadRect (rowC m ρ c) (ix2 r k)
      = rowC m ρ c (ix2 r (⟨q + k.val, by omega⟩ : Fin 1024)) := by
  have e := fun a : Fin 2 => ValueKit.view_emb_slice_whole_unit_val cc0_scratch1 ![0, q] ![128, n] inb (ix2 r k) a
  refine congrArg (rowC m ρ c) (funext fun a => Fin.ext ?_)
  refine (e a).trans ?_
  match a with
  | ⟨0, _⟩ => exact Nat.zero_add _
  | ⟨1, _⟩ => rfl

/-- Rows `[q, q + n)` of the permuted `w`, element by element. -/
theorem wp_read (c : Dev nD) (q n : Nat) (inb : ∀ a, (![q, 0] : Fin 2 → Nat) a + (![n, 1024] : Fin 2 → Nat) a ≤ S1024x1024.size a)
    (hq : q + n ≤ 1024) (k : Fin n) (l : Fin 1024) :
    wpM.view.readAt (Elt Ideal) (Rect.unit (s := S1024x1024) ![q, 0] (![n, 1024]) inb).toLoadRect (wpC m ρ c) (ix2 k l)
      = wpC m ρ c (ix2 (⟨q + k.val, by omega⟩ : Fin 1024) l) := by
  have e := fun a : Fin 2 => ValueKit.view_emb_slice_whole_unit_val cc0_scratch2 ![q, 0] ![n, 1024] inb (ix2 k l) a
  refine congrArg (wpC m ρ c) (funext fun a => Fin.ext ?_)
  refine (e a).trans ?_
  match a with
  | ⟨0, _⟩ => rfl
  | ⟨1, _⟩ => exact Nat.zero_add _

/-- The landing buffer and the permuted `w` as arrays of extended reals. -/
def rowI (c : Dev nD) : (⟨2, ![128, 1024]⟩ : Shape).Idx → EReal := rowC m ρ c
def wpI (c : Dev nD) : (⟨2, ![1024, 1024]⟩ : Shape).Idx → EReal := wpC m ρ c

/-- The accumulator is row by column of the landing buffer and the permuted `w`. -/
theorem accAt_sum (c : Dev nD) (r : Fin 128) (l : Fin 1024) :
    (accAt m ρ c (ix2 r l) : EReal)
      = ∑ k : Fin 1024, rowI m ρ c (ix2 r k) * wpI m ρ c (ix2 k l) := by
  rw [← sum_groups (fun k => rowI m ρ c (ix2 r k) * wpI m ρ c (ix2 k l))]
  have hA := Ideal.matmul_plain_apply (M := 128) (K := 384) (N := 1024) (φ₁ := .bf16) (φ₂ := .bf16) none (rowA m ρ c) (wpA m ρ c) (constant S128x1024 .f32 0x00000000#32) r l
  have hB := Ideal.matmul_plain_apply (M := 128) (K := 384) (N := 1024) (φ₁ := .bf16) (φ₂ := .bf16) none (rowB m ρ c) (wpB m ρ c) (constant S128x1024 .f32 0x00000000#32) r l
  have hD := Ideal.matmul_plain_apply (M := 128) (K := 256) (N := 1024) (φ₁ := .bf16) (φ₂ := .bf16) none (rowD m ρ c) (wpD m ρ c) (constant S128x1024 .f32 0x00000000#32) r l
  have hz : (constant (F := Ideal) S128x1024 .f32 0x00000000#32 (ix2 r l) : EReal) = 0 := Ideal.ofBits_zero_f32
  have hz' : (k0_pay14 (F := Ideal) (ix2 r l) : EReal) = 0 := Ideal.ofBits_zero_f32
  rw [hz, zero_add] at hA hB hD
  have e : (accAt m ρ c (ix2 r l) : EReal)
      = ((k0_pay14 (F := Ideal) (ix2 r l) + FloatOps.matmul (φ₁ := .bf16) (φ₂ := .bf16) (DotDims.plain 128 384 1024) none (rowA m ρ c) (wpA m ρ c) (constant S128x1024 .f32 0x00000000#32) (ix2 r l))
        + FloatOps.matmul (φ₁ := .bf16) (φ₂ := .bf16) (DotDims.plain 128 384 1024) none (rowB m ρ c) (wpB m ρ c) (constant S128x1024 .f32 0x00000000#32) (ix2 r l))
        + FloatOps.matmul (φ₁ := .bf16) (φ₂ := .bf16) (DotDims.plain 128 256 1024) none (rowD m ρ c) (wpD m ρ c) (constant S128x1024 .f32 0x00000000#32) (ix2 r l) := rfl
  rw [e, hz', zero_add, hA, hB, hD]
  refine congrArg₂ (· + ·) (congrArg₂ (· + ·) (Finset.sum_congr rfl fun k _ => ?_) (Finset.sum_congr rfl fun k _ => ?_)) (Finset.sum_congr rfl fun k _ => ?_)
  · refine congrArg₂ (· * ·) ((row_read m ρ c 0 384 _ (by omega) r k).trans ?_) ((wp_read m ρ c 0 384 _ (by omega) k l).trans ?_)
    · simp only [Nat.zero_add]; rfl
    · simp only [Nat.zero_add]; rfl
  · exact congrArg₂ (· * ·) (row_read m ρ c 384 384 _ (by omega) r k) (wp_read m ρ c 384 384 _ (by omega) k l)
  · exact congrArg₂ (· * ·) (row_read m ρ c 768 256 _ (by omega) r k) (wp_read m ρ c 768 256 _ (by omega) k l)

/-! ## The same of the whole arrays -/

/-- The rounded block of `x` is, over the extended reals, the block. -/
theorem xbC_ideal (c : Dev nD) : xbC m ρ c = xstg m ρ c := by
  unfold xbC k0_pay2
  simp only [shapeCast_self]
  rfl

/-- Position `q` of slot `s` of row `r` in device `c`'s landing buffer is row `128 c + r`, column `128 p + q` of the whole
    `x`, where `p` is the peer of slot `s`. -/
theorem rowC_whole (X : (⟨2, ![1024, 1024]⟩ : Shape).Idx → EReal)
    (hx : ∀ c : Dev nD, xstg m ρ c = Layout.block ⟨2, ![1024, 128]⟩ ⟨2, ![1024, 1024]⟩ 1 8 c X)
    (c : Dev nD) (r : Fin 128) (s : Fin 8) (q : Fin 128) :
    rowI m ρ c (ix2 r (⟨128 * s.val + q.val, by omega⟩ : Fin 1024))
      = X (ix2 (⟨128 * c.val + r.val, rows_lt c r.isLt⟩ : Fin 1024) (⟨128 * (peer c s).val + q.val, rows_lt _ q.isLt⟩ : Fin 1024)) := by
  have hs : slotOf (ix2 r (⟨128 * s.val + q.val, by omega⟩ : Fin 1024)) = s :=
    Fin.ext (show (128 * s.val + q.val) / 128 = s.val by omega)
  unfold rowI
  rw [rowC_slot m ρ c s (ix2 r (⟨128 * s.val + q.val, by omega⟩ : Fin 1024)) hs (ix2 (⟨128 * c.val + r.val, rows_lt c r.isLt⟩ : Fin 1024) q) rfl
    (show q.val = (128 * s.val + q.val) % 128 by omega), xbC_ideal, hx]
  refine congrArg X (funext fun a => Fin.ext ?_)
  match a with
  | ⟨0, _⟩ => rfl
  | ⟨1, _⟩ =>
    show (peer c s).val * 128 + q.val = 128 * (peer c s).val + q.val
    omega

/-- Row `q` of block `s` of the permuted `w` is row `128 p + q` of `w`. -/
theorem wpC_whole (W : (⟨2, ![1024, 1024]⟩ : Shape).Idx → EReal) (c : Dev nD) (hw : wstg m ρ c = W)
    (s : Fin 8) (q : Fin 128) (l : Fin 1024) :
    wpI m ρ c (ix2 (⟨128 * s.val + q.val, by omega⟩ : Fin 1024) l)
      = W (ix2 (⟨128 * (peer c s).val + q.val, rows_lt _ q.isLt⟩ : Fin 1024) l) := by
  have hs : wblkOf (ix2 (⟨128 * s.val + q.val, by omega⟩ : Fin 1024) l) = s :=
    Fin.ext (show (128 * s.val + q.val) / 128 = s.val by omega)
  subst hw
  refine congrArg (wstg m ρ c) (funext fun a => Fin.ext ?_)
  match a with
  | ⟨0, _⟩ =>
    show 128 * (peer c (wblkOf (ix2 (⟨128 * s.val + q.val, by omega⟩ : Fin 1024) l))).val + (128 * s.val + q.val) % 128 = 128 * (peer c s).val + q.val
    rw [hs]
    omega
  | ⟨1, _⟩ => rfl

/-- Element (r, l) of device `c`'s product is row `128 c + r` by column `l` of the whole `x` and `w`: the peers of the
    eight slots are the eight devices, each once. -/
theorem accAt_whole (X W : (⟨2, ![1024, 1024]⟩ : Shape).Idx → EReal)
    (hx : ∀ c : Dev nD, xstg m ρ c = Layout.block ⟨2, ![1024, 128]⟩ ⟨2, ![1024, 1024]⟩ 1 8 c X)
    (c : Dev nD) (hw : wstg m ρ c = W) (r : Fin 128) (l : Fin 1024) :
    (accAt m ρ c (ix2 r l) : EReal)
      = ∑ k : Fin 1024, X (ix2 (⟨128 * c.val + r.val, rows_lt c r.isLt⟩ : Fin 1024) k) * W (ix2 k l) := by
  rw [accAt_sum, sum_blocks, sum_blocks (fun k => X (ix2 (⟨128 * c.val + r.val, rows_lt c r.isLt⟩ : Fin 1024) k) * W (ix2 k l))]
  refine Eq.trans ?_ (Equiv.sum_comp (peers c) (fun p : Fin 8 => ∑ q : Fin 128,
    X (ix2 (⟨128 * c.val + r.val, rows_lt c r.isLt⟩ : Fin 1024) (⟨128 * p.val + q.val, by omega⟩ : Fin 1024)) * W (ix2 (⟨128 * p.val + q.val, by omega⟩ : Fin 1024) l)))
  refine Finset.sum_congr rfl fun s _ => Finset.sum_congr rfl fun q _ => ?_
  rw [rowC_whole m ρ X hx, wpC_whole m ρ W c hw]
  rfl

end Cert.KernelIdeal.Exchange
-- ==== Proof.Silu.lean ====
/-
The function applied to the product, over the extended reals: the kernel's spelling and the references' are equal, with the
clip wherever the clip leaves its argument alone.
-/
module

public import proofs.«01_k».proof.Proof.Product

@[expose] public section

noncomputable section

namespace Cert.KernelIdeal.Exchange

open Idealize.ShloMosaic

/-! ## The function -/

/-- The exponential is not negative. -/
theorem exp_nonneg (z : EReal) : 0 ≤ Ideal.exp z := by
  induction z using EReal.rec with
  | bot => exact le_refl _
  | top => exact le_top
  | coe r => exact EReal.coe_nonneg.mpr (Real.exp_pos r).le

/-- One plus an exponential is not zero. -/
theorem one_add_exp_ne_zero (z : EReal) : 1 + Ideal.exp z ≠ 0 := by
  have h1 : (1 : EReal) ≤ 1 + Ideal.exp z := le_add_of_nonneg_right (exp_nonneg z)
  intro e
  rw [e] at h1
  exact absurd h1 (by simp)

/-- The product times the reciprocal is the quotient, at every extended real. -/
theorem silu_eq (y : EReal) : y * Ideal.div 1 (1 + Ideal.exp (0 - y)) = Ideal.div y (1 + Ideal.exp (-y)) := by
  rw [zero_sub, Ideal.mul_one_div (one_add_exp_ne_zero _)]

/-! ## The clip -/

/-- The words of 60 and of −60. -/
theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = -((60 : ℝ) : EReal) := by
  rw [← EReal.coe_neg]
  simp [Ideal.ofBits, Ideal.ieee, -EReal.coe_mul, -EReal.coe_neg]; norm_num

/-- Clipping to `[-b, b]` leaves alone what is of absolute value at most `b`. -/
theorem clip_idle {y b : EReal} (h : max y (-y) ≤ b) : min b (max (-b) y) = y := by
  have h1 : y ≤ b := (le_max_left _ _).trans h
  have h2 : -b ≤ y := EReal.neg_le.mp ((le_max_right _ _).trans h)
  rw [max_eq_right h2, min_eq_right h1]

/-- The mask's comparison says what it says. -/
theorem of_cmp_ole {x y : EReal} (h : Ideal.cmp .ole x y = 1#1) : x ≤ y := by
  by_contra hn
  rw [Ideal.cmp, decide_eq_false hn] at h
  exact absurd h (by decide)

end Cert.KernelIdeal.Exchange
-- ==== Proof.Value.lean ====
/-
What the kernel and the references end with, over the extended reals: each device's result is its block of rows of the
reference's result.
-/
module

public import proofs.«01_k».proof.Proof.Silu
public import proofs.«01_k».proof.Proof.Gen.SiluIdeal.Run
public import proofs.«01_k».proof.Proof.Gen.ReferenceIdeal.Run
public import proofs.«01_k».proof.Proof.Gen.On_clip_idle

@[expose] public section

noncomputable section

namespace Cert.KernelIdeal.Exchange

open Idealize.ShloMosaic
open Idealize.ShloMosaic.TcCoe
open Idealize.ShloMosaic.ValueIdx
open scoped BigOperators

/-- A whole array of the problem, over the extended reals. -/
abbrev Whole := (⟨2, ![1024, 1024]⟩ : Shape).Idx → EReal

/-- The product of the whole arrays, element by element. -/
def prod (X W : Whole) : Whole := fun i => ∑ k : Fin 1024, X (ix2 (i 0 : Fin 1024) k) * W (ix2 k (i 1 : Fin 1024))

/-! ## The references, element by element -/

/-- The result of the reference without the clip. -/
def siluOut (X W : Whole) : Whole :=
  Host.divf (F := Ideal) (s := Cert.SiluIdeal.S1024x1024) (φ := .f32) (Host.dotGeneral (φ₁ := .f32) (φ₂ := .f32) Cert.SiluIdeal.dot_S1024x1024_S1024x1024_S1024x1024_1_0_0_1_n_n none X W)
    (addf (broadcastInDim Cert.SiluIdeal.S1024x1024 ![] Cert.SiluIdeal.Gen.bcast_S_S1024x1024 (constant Cert.SiluIdeal.S_ .f32 0x3F800000#32))
      (Host.exp (Host.negf (Host.dotGeneral (φ₁ := .f32) (φ₂ := .f32) Cert.SiluIdeal.dot_S1024x1024_S1024x1024_S1024x1024_1_0_0_1_n_n none X W))))

/-- The result of the reference with the clip. -/
def refOut (X W : Whole) : Whole :=
  Host.divf (F := Ideal) (s := Cert.ReferenceIdeal.S1024x1024) (φ := .f32) (Host.dotGeneral (φ₁ := .f32) (φ₂ := .f32) Cert.ReferenceIdeal.dot_S1024x1024_S1024x1024_S1024x1024_1_0_0_1_n_n none X W)
    (addf (broadcastInDim Cert.ReferenceIdeal.S1024x1024 ![] Cert.ReferenceIdeal.Gen.bcast_S_S1024x1024 (constant Cert.ReferenceIdeal.S_ .f32 0x3F800000#32))
      (Host.exp (Host.negf
        (minimumf (broadcastInDim Cert.ReferenceIdeal.S1024x1024 ![] Cert.ReferenceIdeal.Gen.bcast_S_S1024x1024 (id (constant Cert.ReferenceIdeal.S_ .f32 0x42700000#32)))
          (maximumf (broadcastInDim Cert.ReferenceIdeal.S1024x1024 ![] Cert.ReferenceIdeal.Gen.bcast_S_S1024x1024 (id (constant Cert.ReferenceIdeal.S_ .f32 0xC2700000#32)))
            (Host.dotGeneral (φ₁ := .f32) (φ₂ := .f32) Cert.ReferenceIdeal.dot_S1024x1024_S1024x1024_S1024x1024_1_0_0_1_n_n none X W))))))

/-- The host's product is the product. -/
theorem host_prod (X W : Whole) (i : (⟨2, ![1024, 1024]⟩ : Shape).Idx) :
    (Host.dotGeneral (F := Ideal) (φ₁ := .f32) (φ₂ := .f32) (DotDims.plain 1024 1024 1024) none X W i : EReal) = prod X W i := by
  obtain ⟨a, b, rfl⟩ : ∃ (a b : Fin 1024), i = ix2 a b := ⟨i 0, i 1, eq_ix2 i⟩
  exact StackMember.dotGeneral_plain_apply none X W a b

/-- Without the clip, an element of the result is `y / (1 + exp (-y))` of the product's element `y`. -/
theorem siluOut_apply (X W : Whole) (i : (⟨2, ![1024, 1024]⟩ : Shape).Idx) :
    siluOut X W i = Ideal.div (prod X W i) (1 + Ideal.exp (-(prod X W i))) := by
  rw [← host_prod, ← Ideal.ofBits_one_f32]
  rfl

/-- With the clip, it is `y / (1 + exp (-(min 60 (max (-60) y))))`. -/
theorem refOut_apply (X W : Whole) (i : (⟨2, ![1024, 1024]⟩ : Shape).Idx) :
    refOut X W i = Ideal.div (prod X W i) (1 + Ideal.exp (-(min ((60 : ℝ) : EReal) (max (-((60 : ℝ) : EReal)) (prod X W i))))) := by
  rw [← host_prod, ← Ideal.ofBits_one_f32, ← ofBits_neg_sixty, ← ofBits_sixty]
  rfl

/-- Where the mask is set the product's element is of absolute value at most 60. -/
theorem mask_le (X W : Whole) (i : (⟨2, ![1024, 1024]⟩ : Shape).Idx) (h : Cert.On_clip_idle.fn (F := Ideal) X W i = 1#1) :
    max (prod X W i) (-(prod X W i)) ≤ ((60 : ℝ) : EReal) := by
  rw [← host_prod, ← ofBits_sixty]
  exact of_cmp_ole h

/-- So there the two references agree. -/
theorem refOut_eq (X W : Whole) (i : (⟨2, ![1024, 1024]⟩ : Shape).Idx) (h : Cert.On_clip_idle.fn (F := Ideal) X W i = 1#1) :
    refOut X W i = siluOut X W i := by
  rw [refOut_apply, siluOut_apply, clip_idle (mask_le X W i h)]

/-! ## The kernel -/

open Cert.KernelIdeal Cert.KernelIdeal.Gen

variable (m : (ℓ : Loc nD τ sig) → Buf (Elt Ideal) ℓ) (ρ : Dev nD → PrngReg)

/-- An element of a device's result, from the element of its product. -/
theorem outAt_apply (c : Dev nD) (i : (⟨2, ![128, 1024]⟩ : Shape).Idx) (y : EReal) (hy : (accAt m ρ c i : EReal) = y) :
    (outAt m ρ c i : EReal) = Ideal.div y (1 + Ideal.exp (-y)) := by
  rw [← silu_eq, ← hy, ← Ideal.ofBits_one_f32, ← Ideal.ofBits_zero_f32]
  rfl

/-- Each device's result is its block of 128 rows of the reference's without the clip. -/
theorem outAt_block (X W : Whole)
    (hx : ∀ c : Dev nD, m ((c : Thread nD τ).loc main_arg0) = Layout.block ⟨2, ![1024, 128]⟩ ⟨2, ![1024, 1024]⟩ 1 8 c X)
    (hw : ∀ c : Dev nD, m ((c : Thread nD τ).loc main_arg1) = W) (c : Dev nD) :
    outAt m ρ c = Layout.block ⟨2, ![128, 1024]⟩ ⟨2, ![1024, 1024]⟩ 0 8 c (siluOut X W) := by
  funext i
  obtain ⟨r, l, rfl⟩ : ∃ (r : Fin 128) (l : Fin 1024), i = ix2 r l := ⟨i 0, i 1, eq_ix2 i⟩
  have h := accAt_whole m ρ X W (fun c => (xstg_eq m ρ c).trans (hx c)) c ((wstg_eq m ρ c).trans (hw c)) r l
  refine (outAt_apply m ρ c _ _ h).trans ?_
  rw [Layout.block_apply, siluOut_apply]
  have e : Layout.Tiles.idx (S := ⟨2, ![128, 1024]⟩) (T := ⟨2, ![1024, 1024]⟩) (a := 0) (k := 8) (by decide) c (ix2 r l)
      = ix2 (⟨128 * c.val + r.val, rows_lt c r.isLt⟩ : Fin 1024) l := by
    funext a
    apply Fin.ext
    match a with
    | ⟨0, _⟩ =>
      show c.val * 128 + r.val = 128 * c.val + r.val
      omega
    | ⟨1, _⟩ => rfl
  rw [e]
  rfl

end Cert.KernelIdeal.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_clip_idle
public import proofs.«01_k».proof.Proof.Value
public import proofs.«01_k».proof.Proof.KLaunch
public import Idealize.ShloMosaic.Adequacy
public import Idealize.ShloMosaic.Init

@[expose] public section

noncomputable section

namespace Cert.Proof

open Idealize.ShloMosaic Idealize.SL.Sem

/-- The kernel runs without fault, leaves its arguments unchanged and every semaphore counter at zero. -/
theorem frame_p : Cert.quiescent_Kernel := fun m ρ _ =>
  (θ_run Cert.Kernel.defs _ _).mono (fun _ h => ⟨fun c => (h.1 c).2, h.2⟩) (Cert.Kernel.Exchange.run (F := Bits) m ρ)

/-- So does its ideal program. -/
theorem frame_pi : Cert.quiescent_KernelIdeal := fun m ρ _ =>
  (θ_run Cert.KernelIdeal.defs _ _).mono (fun _ h => ⟨fun c => (h.1 c).2, h.2⟩) (Cert.KernelIdeal.Exchange.run (F := Ideal) m ρ)

/-- So do the two references, which declare no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)
theorem frame_si : Cert.quiescent_SiluIdeal := fun m ρ _ =>
  (θ_run Cert.SiluIdeal.defs _ _).mono (fun r h => ⟨fun c => (h c).2, sem_eq_zero_of_no_sems (by decide) r.2⟩)
    (Cert.SiluIdeal.Value.run m ρ)

open Cert.KernelIdeal.Exchange in
/-- Each device's result is its block of rows of the result of the reference without the clip, whatever the arguments. -/
theorem algebraic_silu : Cert.algebraic_KernelIdeal_SiluIdeal := by
  intro m ρ m' ρ' _ hagree
  refine ⟨siluOut (m' (((0 : Dev Cert.SiluIdeal.nD).tc : Thread Cert.SiluIdeal.nD Cert.SiluIdeal.τ).loc Cert.SiluIdeal.main_arg0))
    (m' (((0 : Dev Cert.SiluIdeal.nD).tc : Thread Cert.SiluIdeal.nD Cert.SiluIdeal.τ).loc Cert.SiluIdeal.main_arg1)), ?_, ?_⟩
  · exact (θ_run Cert.KernelIdeal.defs _ _).mono
      (fun _ h c => ⟨(h.1 c).1.trans (outAt_block m ρ _ _ (fun c => (hagree c).1) (fun c => (hagree c).2) c), (h.1 c).2⟩)
      (Cert.KernelIdeal.Exchange.run (F := Ideal) m ρ)
  · exact (θ_run Cert.SiluIdeal.defs _ _).mono (fun _ h => h 0) (Cert.SiluIdeal.Value.run m' ρ')

open Cert.KernelIdeal.Exchange in
/-- Each device's result is its block of rows of the result of the reference with the clip, at every element at which the
    product is of absolute value at most 60. -/
theorem algebraic_clip : Cert.algebraic_KernelIdeal_ReferenceIdeal_on_clip_idle := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨fun i hi =>
        (congrFun ((h.1 c).1.trans (outAt_block m ρ _ _ (fun c => (hagree c).1) (fun c => (hagree c).2) c)) i).trans (refOut_eq _ _ _ hi).symm,
        (h.1 c).2⟩)
      (Cert.KernelIdeal.Exchange.run (F := Ideal) m ρ)
  · exact (θ_run Cert.ReferenceIdeal.defs _ _).mono (fun _ h => ⟨fun i _ => congrFun (h 0).1 i, (h 0).2⟩) (Cert.ReferenceIdeal.Value.run m' ρ')

theorem claim : Cert.Claim := ⟨Cert.Kernel.Gen.facts, Cert.KernelIdeal.Gen.facts, Cert.ReferenceIdeal.Gen.facts, Cert.SiluIdeal.Gen.facts, Cert.On_clip_idle.Gen.facts,
  frame_p, frame_pi, frame_ri, frame_si, trivial, algebraic_silu, algebraic_clip⟩

end Cert.Proof

end
